-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_counts_in_range [hPre_counts_in_range : Cert.Pre_counts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_counts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_in_range [hPre_counts_in_range : Cert.Pre_counts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_counts_in_range [hKernelIdeal : Cert.KernelIdeal.Facts] [hPre_counts_in_range : Cert.Pre_counts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_counts_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_counts_in_range [hReferenceIdeal : Cert.ReferenceIdeal.Facts] [hPre_counts_in_range : Cert.Pre_counts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_counts_in_range [hKernelIdeal : Cert.KernelIdeal.Facts] [hReferenceIdeal : Cert.ReferenceIdeal.Facts] [hPre_counts_in_range : Cert.Pre_counts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_counts_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v0)) (v3 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v0) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v18) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_counts_in_range : Cert.Pre_counts_in_range.Facts),
    quiescent_Kernel (hKernel := hKernel)
    ∧ quiescent_KernelIdeal (hKernelIdeal := hKernelIdeal)
    ∧ quiescent_KernelIdeal_pre_counts_in_range (hKernelIdeal := hKernelIdeal) (hPre_counts_in_range := hPre_counts_in_range)
    ∧ quiescent_ReferenceIdeal (hReferenceIdeal := hReferenceIdeal)
    ∧ quiescent_ReferenceIdeal_pre_counts_in_range (hReferenceIdeal := hReferenceIdeal) (hPre_counts_in_range := hPre_counts_in_range)
    ∧ preserves_Kernel_KernelIdeal
    ∧ algebraic_KernelIdeal_ReferenceIdeal_pre_counts_in_range (hKernelIdeal := hKernelIdeal) (hReferenceIdeal := hReferenceIdeal) (hPre_counts_in_range := hPre_counts_in_range)
-- ==== Pre_counts_in_range.lean ====
abbrev S383767 : Shape := ⟨1, ![383767]⟩
abbrev S383767x3 : Shape := ⟨2, ![383767, 3]⟩
abbrev S4096 : Shape := ⟨1, ![4096]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : IVec S383767 32) (main_arg1 : FVec F S383767x3 .f32) (main_arg2 : FVec F S4096 .f32) (main_arg3 : IVec S4096 32) : IVec S4096 1 :=
  let main_c : IVec S_ 32 := constantI S_ 32 1#32
  let main_v0 : IVec S4096 32 := broadcastInDim S4096 ![] bcast_S_S4096 main_c
  let main_v1 : IVec S4096 1 := cmpi .sge main_arg3 main_v0
  let main_c_0 : IVec S_ 32 := constantI S_ 32 185#32
  let main_v2 : IVec S4096 32 := broadcastInDim S4096 ![] bcast_S_S4096 main_c_0
  let main_v3 : IVec S4096 1 := cmpi .sle main_arg3 main_v2
  let main_v4 : IVec S4096 1 := andi main_v1 main_v3
  main_v4
-- ==== Kernel.lean ====
abbrev S383767 : Shape := ⟨1, ![383767]⟩
abbrev S383767x3 : Shape := ⟨2, ![383767, 3]⟩
abbrev S4096 : Shape := ⟨1, ![4096]⟩
abbrev S12000 : Shape := ⟨1, ![12000]⟩
abbrev S_ : Shape := ⟨0, ![]⟩
abbrev S16 : Shape := ⟨1, ![16]⟩
abbrev S11767 : Shape := ⟨1, ![11767]⟩
abbrev S1 : Shape := ⟨1, ![1]⟩
abbrev S4096x1 : Shape := ⟨2, ![4096, 1]⟩

abbrev nBuf : Table → Nat
  | .hbm => 26
  | .local .scVector .vmem => 2
  | _ => 0

abbrev bufTy : (tb : Table) → Fin (nBuf tb) → BufTy
  | .hbm, ⟨0, _⟩ => ⟨S383767, .i32⟩
  | .hbm, ⟨1, _⟩ => ⟨S383767x3, .f32⟩
  | .hbm, ⟨2, _⟩ => ⟨S4096, .f32⟩
  | .hbm, ⟨3, _⟩ => ⟨S4096, .i32⟩
  | .hbm, ⟨4, _⟩ => ⟨S383767, .i32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S383767, .i32⟩
  | .hbm, ⟨20, _⟩ => ⟨S383767, .i32⟩
  | .hbm, ⟨21, _⟩ => ⟨S383767x3, .f32⟩
  | .hbm, ⟨22, _⟩ => ⟨S383767x3, .f32⟩
  | .hbm, ⟨23, _⟩ => ⟨S4096, .f32⟩
  | .hbm, ⟨24, _⟩ => ⟨S4096, .f32⟩
  | .hbm, ⟨25, _⟩ => ⟨S4096x1, .f32⟩
  | .local .scVector .vmem, ⟨0, _⟩ => ⟨S4096, .i32⟩
  | .local .scVector .vmem, ⟨1, _⟩ => ⟨S12000, .i32⟩
  | _, _ => ⟨S383767, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_cst : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_c_2 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_arg3_scv : Ref sig .scVector := ⟨.hbm, 3, rfl⟩
abbrev main_v0_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c750_i32 : BitVec 32 := 750#32
  let v4 : BitVec 32 := Scalar.addi c0_i32_1 c750_i32
  let c1_i32 : BitVec 32 := 1#32
  ⟨c0_i32_1, v4, c1_i32⟩
def k0_off1 (k0_t1 : Fin k0_t1_loop.trips) : Fin 1 → Nat :=
  let c0_i32_1 : BitVec 32 := 0#32
  let c1_i32 : BitVec 32 := 1#32
  let arg7 : BitVec 32 := Scf.iv c0_i32_1 c1_i32 k0_t1
  let c16_i32 : BitVec 32 := 16#32
  let v21 : BitVec 32 := Scalar.muli arg7 c16_i32
  let v22 : Index := Scalar.indexCast v21
  ![v22.toNat]
@[reducible] def k0_t2_loop : Scf.Loop 32 :=
  let c0_i32_5 : BitVec 32 := 0#32
  let c256_i32 : BitVec 32 := 256#32
  let v8 : BitVec 32 := Scalar.addi c0_i32_5 c256_i32
  let c1_i32_6 : BitVec 32 := 1#32
  ⟨c0_i32_5, v8, c1_i32_6⟩
def k0_off2 (k0_t2 : Fin k0_t2_loop.trips) : Fin 1 → Nat :=
  let c0_i32_5 : BitVec 32 := 0#32
  let c1_i32_6 : BitVec 32 := 1#32
  let arg7 : BitVec 32 := Scf.iv c0_i32_5 c1_i32_6 k0_t2
  let c16_i32_15 : BitVec 32 := 16#32
  let v24 : BitVec 32 := Scalar.muli arg7 c16_i32_15
  let v25 : Index := Scalar.indexCast v24
  ![v25.toNat]

def k0_chk1 (v44 : IVec S16 32) : Prop :=
  (∀ a x, ((![v44] : Fin 1 → IVec S16 32) a x).toNat < S12000.size a)
theorem k0_idx1_inb : ∀ (v44 : IVec S16 32) (k0_hw1 : k0_chk1 v44), ∀ a x, ((![v44] : Fin 1 → IVec S16 32) a x).toNat < S12000.size a := fun v44 k0_hw1 => k0_hw1
@[reducible] def k0_t3_loop : Scf.Loop 32 :=
  let c0_i32_8 : BitVec 32 := 0#32
  let c750_i32_9 : BitVec 32 := 750#32
  let v13 : BitVec 32 := Scalar.addi c0_i32_8 c750_i32_9
  let c1_i32_10 : BitVec 32 := 1#32
  ⟨c0_i32_8, v13, c1_i32_10⟩
def k0_off3 (k0_t3 : Fin k0_t3_loop.trips) : Fin 1 → Nat :=
  let c0_i32_8 : BitVec 32 := 0#32
  let c1_i32_10 : BitVec 32 := 1#32
  let arg7 : BitVec 32 := Scf.iv c0_i32_8 c1_i32_10 k0_t3
  let c16_i32 : BitVec 32 := 16#32
  let v21 : BitVec 32 := Scalar.muli arg7 c16_i32
  let v22 : Index := Scalar.indexCast v21
  ![v22.toNat]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v15 : BitVec 1 := Scalar.cmpi .slt v1 c31_i32
  let v16 : BitVec 32 := Scalar.extui v15
  let c0_i32_12 : BitVec 32 := 0#32
  let v17 : BitVec 1 := Scalar.cmpi .ne v16 c0_i32_12
  v17

def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12000_i32 : BitVec 32 := 12000#32
  let v2 : BitVec 32 := Scalar.muli v1 c12000_i32
  ![v2.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_13 : BitVec 32 := 31#32
  let v18 : BitVec 1 := Scalar.cmpi .eq v1 c31_i32_13
  let v19 : BitVec 32 := Scalar.extui v18
  let c0_i32_14 : BitVec 32 := 0#32
  let v20 : BitVec 1 := Scalar.cmpi .ne v19 c0_i32_14
  v20

def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12000_i32 : BitVec 32 := 12000#32
  let v2 : BitVec 32 := Scalar.muli v1 c12000_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S383767 : Shape := ⟨1, ![383767]⟩
abbrev S383767x3 : Shape := ⟨2, ![383767, 3]⟩
abbrev S4096 : Shape := ⟨1, ![4096]⟩
abbrev S1 : Shape := ⟨1, ![1]⟩
abbrev S4095 : Shape := ⟨1, ![4095]⟩
abbrev S_ : Shape := ⟨0, ![]⟩
abbrev S4096x1 : Shape := ⟨2, ![4096, 1]⟩
abbrev S383767x1 : Shape := ⟨2, ![383767, 1]⟩
abbrev S1x1 : Shape := ⟨2, ![1, 1]⟩

abbrev nBuf : Space → Nat
  | .hbm => 57
  | .vmem => 0
  | .smem => 0
  | _ => 0

abbrev bufTy : (tb : Table) → Fin (tcTables nBuf tb) → BufTy
  | .hbm, ⟨0, _⟩ => ⟨S383767, .i32⟩
  | .hbm, ⟨1, _⟩ => ⟨S383767x3, .f32⟩
  | .hbm, ⟨2, _⟩ => ⟨S4096, .f32⟩
  | .hbm, ⟨3, _⟩ => ⟨S4096, .i32⟩
  | .hbm, ⟨4, _⟩ => ⟨S4096, .i32⟩
  | .hbm, ⟨5, _⟩ => ⟨S1, .i32⟩
  | .hbm, ⟨6, _⟩ => ⟨S4095, .i32⟩
  | .hbm, ⟨7, _⟩ => ⟨S4096, .i32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S4096, .i32⟩
  | .hbm, ⟨12, _⟩ => ⟨S_, .i32⟩
  | .hbm, ⟨13, _⟩ => ⟨S_, .i32⟩
  | .hbm, ⟨14, _⟩ => ⟨S4096, .i32⟩
  | .hbm, ⟨15, _⟩ => ⟨S_, .i32⟩
  | .hbm, ⟨16, _⟩ => ⟨S383767, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S4096x1, .i32⟩
  | .hbm, ⟨25, _⟩ => ⟨S_, .i32⟩
  | .hbm, ⟨26, _⟩ => ⟨S4096, .i32⟩
  | .hbm, ⟨27, _⟩ => ⟨S383767, .i32⟩
  | .hbm, ⟨28, _⟩ => ⟨S_, .i32⟩
  | .hbm, ⟨29, _⟩ => ⟨S_, .i32⟩
  | .hbm, ⟨30, _⟩ => ⟨S383767, .i32⟩
  | .hbm, ⟨31, _⟩ => ⟨S_, .i32⟩
  | .hbm, ⟨32, _⟩ => ⟨S383767, .i32⟩
  | .hbm, ⟨33, _⟩ => ⟨S383767, .i32⟩
  | .hbm, ⟨34, _⟩ => ⟨S_, .i32⟩
  | .hbm, ⟨35, _⟩ => ⟨S383767, .i32⟩
  | .hbm, ⟨36, _⟩ => ⟨S383767, .i1⟩
  | .hbm, ⟨37, _⟩ => ⟨S_, .i32⟩
  | .hbm, ⟨38, _⟩ => ⟨S383767, .i32⟩
  | .hbm, ⟨39, _⟩ => ⟨S383767, .i32⟩
  | .hbm, ⟨40, _⟩ => ⟨S383767, .i32⟩
  | .hbm, ⟨41, _⟩ => ⟨S383767x1, .i32⟩
  | .hbm, ⟨42, _⟩ => ⟨S1, .i32⟩
  | .hbm, ⟨43, _⟩ => ⟨S_, .i32⟩
  | .hbm, ⟨44, _⟩ => ⟨S383767x1, .i32⟩
  | .hbm, ⟨45, _⟩ => ⟨S383767x1, .i1⟩
  | .hbm, ⟨46, _⟩ => ⟨S1x1, .i32⟩
  | .hbm, ⟨47, _⟩ => ⟨S383767x1, .i32⟩
  | .hbm, ⟨48, _⟩ => ⟨S383767x1, .i1⟩
  | .hbm, ⟨49, _⟩ => ⟨S383767x1, .i1⟩
  | .hbm, ⟨50, _⟩ => ⟨S_, .i1⟩
  | .hbm, ⟨51, _⟩ => ⟨S383767, .i1⟩
  | .hbm, ⟨52, _⟩ => ⟨S383767, .i32⟩
  | .hbm, ⟨53, _⟩ => ⟨S_, .i32⟩
  | .hbm, ⟨54, _⟩ => ⟨S383767, .i32⟩
  | .hbm, ⟨55, _⟩ => ⟨S383767, .i32⟩
  | .hbm, ⟨56, _⟩ => ⟨S4096x1, .f32⟩
  | _, _ => ⟨S383767, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_call1_call0_c : Ref sig .tc := ⟨.hbm, 12, rfl⟩
abbrev main_call1_call0_v0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_call2_call0_c : Ref sig .tc := ⟨.hbm, 28, rfl⟩
abbrev main_call2_call0_v0 : Ref sig .tc := ⟨.hbm, 29, rfl⟩
abbrev main_v14 : Ref sig .tc := ⟨.hbm, 30, rfl⟩
abbrev main_c_5 : Ref sig .tc := ⟨.hbm, 31, rfl⟩
abbrev main_v15 : Ref sig .tc := ⟨.hbm, 32, rfl⟩
abbrev main_v16 : Ref sig .tc := ⟨.hbm, 33, rfl⟩
abbrev main_call3_c : Ref sig .tc := ⟨.hbm, 34, rfl⟩
abbrev main_call3_v0 : Ref sig .tc := ⟨.hbm, 35, rfl⟩
abbrev main_call3_v1 : Ref sig .tc := ⟨.hbm, 36, rfl⟩
abbrev main_call3_c_0 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_call3_v5 : Ref sig .tc := ⟨.hbm, 41, rfl⟩
abbrev main_call3_c_1 : Ref sig .tc := ⟨.hbm, 42, rfl⟩
abbrev main_call3_c_2 : Ref sig .tc := ⟨.hbm, 43, rfl⟩
abbrev main_call3_v6 : Ref sig .tc := ⟨.hbm, 44, rfl⟩
abbrev main_call3_v7 : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_v11 : Ref sig .tc := ⟨.hbm, 49, rfl⟩
abbrev main_call3_c_3 : Ref sig .tc := ⟨.hbm, 50, rfl⟩
abbrev main_call3_v12 : Ref sig .tc := ⟨.hbm, 51, rfl⟩
abbrev main_call3_v13 : Ref sig .tc := ⟨.hbm, 52, rfl⟩
abbrev main_call3_c_4 : Ref sig .tc := ⟨.hbm, 53, rfl⟩
abbrev main_call3_v14 : Ref sig .tc := ⟨.hbm, 54, rfl⟩
abbrev main_v17 : Ref sig .tc := ⟨.hbm, 55, rfl⟩
abbrev main_v18 : Ref sig .tc := ⟨.hbm, 56, rfl⟩

abbrev nD : Nat := 1
abbrev τ : Topo := Topo.v7x

variable {F : FTy → Type} [FloatOps F]
-- ==== Proof.Words.lean ====
/-
  The words the kernel computes, as functions of the counts alone.

  `N k` is the count of molecule `k`, a 32-bit word; all sums wrap.  `lead N k` is the sum of the first `k` counts, so
  molecule `k` owns the positions from `lead N k` up to `lead N (k + 1)`.  A task whose share of the result begins at
  `st` counts the molecules that end at or before `st` (`base`), marks in its share the positions at which a later
  molecule begins (`marks`), and writes the running sums of the marks on top of `base` (`outW`).
-/
module

public import Idealize.ShloMosaic.PureOps
public import Mathlib.Algebra.BigOperators.Fin
public import Mathlib.Data.BitVec

@[expose] public section

noncomputable section

namespace Cert.Proof.Words

open Idealize.ShloMosaic

/-- The sum of the first `k` counts. -/
def lead (N : ℕ → BitVec 32) (k : ℕ) : BitVec 32 := ∑ i ∈ Finset.range k, N i

/-- The end of molecule `k`, counted from the share's first position. -/
def rel (N : ℕ → BitVec 32) (st : BitVec 32) (k : ℕ) : BitVec 32 := lead N (k + 1) - st

/-- Molecule `k` (not the last) ends inside the share, past its first position. -/
def Inside (N : ℕ → BitVec 32) (st : BitVec 32) (k : ℕ) : Prop :=
  k < 4095 ∧ (1#32).sle (rel N st k) = true ∧ (rel N st k).slt 12000#32 = true

open Classical in
/-- After the first `T` molecules: one at each position of the share at which one of them ends, zero elsewhere. -/
def marks (N : ℕ → BitVec 32) (st : BitVec 32) (T j : ℕ) : BitVec 32 :=
  if ∃ k < T, Inside N st k ∧ (rel N st k).toNat = j then 1#32 else 0#32

/-- Of the molecules `l`, `16 + l`, … of the first `T` groups of sixteen (the last molecule excluded): how many end at or before `st`. -/
def below (N : ℕ → BitVec 32) (st : BitVec 32) (T l : ℕ) : BitVec 32 :=
  ∑ t ∈ Finset.range T, if 16 * t + l < 4095 ∧ (lead N (16 * t + l + 1)).sle st = true then 1#32 else 0#32

/-- How many molecules (the last excluded) end at or before `st`. -/
def base (N : ℕ → BitVec 32) (st : BitVec 32) : BitVec 32 := ∑ l ∈ Finset.range 16, below N st 256 l

/-- The running sum of the first `j` marks on top of `base`. -/
def run (N : ℕ → BitVec 32) (st : BitVec 32) (j : ℕ) : BitVec 32 := base N st + ∑ i ∈ Finset.range j, marks N st 4096 i

/-- The first position of task `w`'s share. -/
def startW (w : ℕ) : BitVec 32 := BitVec.ofNat 32 (12000 * w)

/-- What the kernel leaves at position `p` of the result. -/
def outW (N : ℕ → BitVec 32) (p : ℕ) : BitVec 32 := run N (startW (p / 12000)) (p % 12000 + 1)

end Cert.Proof.Words

end
-- ==== Proof.Lanes.lean ====
/-
  Two vector operations on lanes, read element by element: the running sum of a vector's lanes, and the store of one
  constant at the indices a vector names.
-/
module

public import Idealize.ShloMosaic.PureOps
public import Mathlib.Algebra.BigOperators.Fin
public import Mathlib.Data.BitVec

@[expose] public section

noncomputable section

namespace Cert.Proof.Lanes

open Idealize.ShloMosaic

/-- A left fold of wrapping sums, as the start plus a list's sum. -/
theorem foldl_addi {α : Type} (p : α → Bool) (g : α → BitVec 32) (l : List α) (r : BitVec 32) :
    (l.filter p).foldl (fun r k => ScanKind.step .sum r (g k)) r = r + (l.map fun k => if p k then g k else 0#32).sum := by
  induction l generalizing r with
  | nil => exact (BitVec.add_zero r).symm
  | cons a l ih =>
    rw [List.filter_cons]
    cases h : p a with
    | false =>
      simp only [List.map_cons, List.sum_cons, h, Bool.false_eq_true, ↓reduceIte, ih]
      rw [BitVec.zero_add]
    | true =>
      simp only [List.map_cons, List.sum_cons, h, ↓reduceIte, List.foldl_cons, ih]
      show (r + g a) + _ = _
      rw [BitVec.add_assoc]

/-- Lane `i` of the running sum of a vector is the sum of its lanes up to `i`. -/
theorem scan_sum {n : ℕ} (v : IVec ⟨1, ![n]⟩ 32) (w : ℕ → BitVec 32) (h : ∀ i : (⟨1, ![n]⟩ : Shape).Idx, v i = w (i 0).val)
    (i : (⟨1, ![n]⟩ : Shape).Idx) : scan .sum v i = ∑ k ∈ Finset.range ((i 0).val + 1), w k := by
  have hi : (i 0).val < n := (i 0).isLt
  unfold scan
  rw [foldl_addi (fun k : Fin (![n] 0) => decide (0 < k.val ∧ k.val ≤ (i 0).val)) (fun k => v (Shape.ofLane k)), h]
  have e : ((List.finRange (![n] 0)).map fun k : Fin (![n] 0) => if decide (0 < k.val ∧ k.val ≤ (i 0).val) = true then v (Shape.ofLane k) else 0#32).sum
      = ∑ k ∈ Finset.range n, if 0 < k ∧ k ≤ (i 0).val then w k else 0#32 := by
    rw [← Fin.sum_univ_eq_sum_range (fun k => if 0 < k ∧ k ≤ (i 0).val then w k else 0#32) n, Fin.sum_univ_def]
    refine congrArg List.sum (List.map_congr_left fun k _ => ?_)
    rw [h]
    by_cases hk : 0 < k.val ∧ k.val ≤ (i 0).val
    · rw [if_pos (by simpa using hk), if_pos (by exact hk)]; rfl
    · rw [if_neg (by simpa using hk), if_neg (by exact hk)]
  have e1 : (∑ k ∈ Finset.range ((i 0).val + 1), w k) = w 0 + ∑ k ∈ Finset.range (i 0).val, w (k + 1) := by
    rw [Finset.sum_range_succ', add_comm]
  have e2 : (∑ k ∈ Finset.range n, if 0 < k ∧ k ≤ (i 0).val then w k else 0#32) = ∑ k ∈ Finset.range (i 0).val, w (k + 1) := by
    obtain ⟨n', rfl⟩ : ∃ n', n = n' + 1 := ⟨n - 1, by omega⟩
    rw [Finset.sum_range_succ']
    have : ((if 0 < 0 ∧ 0 ≤ (i 0).val then w 0 else 0#32) : BitVec 32) = 0 := by simp
    rw [this, add_zero]
    have hsub : Finset.range (i 0).val ⊆ Finset.range n' := Finset.range_subset_range.mpr (by omega)
    rw [← Finset.sum_subset hsub]
    · refine Finset.sum_congr rfl fun k hk => if_pos ⟨Nat.succ_pos k, ?_⟩
      have := Finset.mem_range.mp hk; omega
    · intro k _ hk
      refine if_neg fun hh => hk (Finset.mem_range.mpr ?_)
      omega
  rw [e, e1, e2]
  rfl

/-- An unmasked-lane store of one constant `c`: an element holds `c` when some set lane names it, and what it held otherwise. -/
theorem storeIdx_const {F : FTy → Type} [FloatOps F] {n N : ℕ} (f : Vec F ⟨1, ![N]⟩ .i32) (idxs : Fin (⟨1, ![N]⟩ : Shape).rank → IVec ⟨1, ![n]⟩ 32)
    (v : Vec F ⟨1, ![n]⟩ .i32) (mask : IVec ⟨1, ![n]⟩ 1) (h : ∀ a x, (idxs a x).toNat < (⟨1, ![N]⟩ : Shape).size a) (c : BitVec 32) (hv : ∀ x, v x = c)
    (j : (⟨1, ![N]⟩ : Shape).Idx) [Decidable (∃ x, mask x = 1 ∧ (idxs 0 x).toNat = (j 0).val)] :
    storeIdx f idxs v mask false h j = if ∃ x, mask x = 1 ∧ (idxs 0 x).toNat = (j 0).val then c else f j := by
  classical
  have key : ∀ (l : List (Fin (![n] 0))) (g : Vec F ⟨1, ![N]⟩ .i32),
      (l.foldl (fun g k =>
        let x := Shape.ofLane k
        if mask x = 1 then
          let i := idxAt idxs h x
          fun j => if (∀ a, (j a).val = (i a).val) then v x else g j
        else g) g) j = if ∃ k ∈ l, mask (Shape.ofLane k) = 1 ∧ (idxs 0 (Shape.ofLane k)).toNat = (j 0).val then c else g j := by
    intro l
    induction l with
    | nil => intro g; exact (if_neg (by rintro ⟨k, hk, _⟩; exact absurd hk List.not_mem_nil)).symm
    | cons k l ih =>
      intro g
      rw [List.foldl_cons, ih]
      by_cases hl : ∃ k ∈ l, mask (Shape.ofLane k) = 1 ∧ (idxs 0 (Shape.ofLane k)).toNat = (j 0).val
      · rw [if_pos hl, if_pos]
        obtain ⟨k', hk', hh⟩ := hl
        exact ⟨k', List.mem_cons_of_mem _ hk', hh⟩
      · rw [if_neg hl]
        by_cases hm : mask (Shape.ofLane k) = 1
        · simp only [hm, ↓reduceIte]
          by_cases hj : (idxs 0 (Shape.ofLane k)).toNat = (j 0).val
          · rw [if_pos (fun a => by rw [Fin.eq_zero a]; exact hj.symm), if_pos ⟨k, List.mem_cons_self, hm, hj⟩]
            exact hv _
          · rw [if_neg (fun hh => hj (hh 0).symm), if_neg]
            rintro ⟨k', hk', hh⟩
            rcases List.mem_cons.mp hk' with rfl | hk'
            · exact hj hh.2
            · exact hl ⟨k', hk', hh⟩
        · simp only [hm, ↓reduceIte]
          rw [if_neg]
          rintro ⟨k', hk', hh⟩
          rcases List.mem_cons.mp hk' with rfl | hk'
          · exact hm hh.1
          · exact hl ⟨k', hk', hh⟩
  unfold storeIdx
  refine (key _ f).trans ?_
  have hiff : (∃ k ∈ List.finRange (![n] 0), mask (Shape.ofLane k) = 1 ∧ (idxs 0 (Shape.ofLane k)).toNat = (j 0).val)
      ↔ ∃ x, mask x = 1 ∧ (idxs 0 x).toNat = (j 0).val := by
    constructor
    · rintro ⟨k, _, hh⟩; exact ⟨_, hh⟩
    · rintro ⟨x, hh⟩
      refine ⟨x 0, List.mem_finRange _, ?_⟩
      rw [show (Shape.ofLane (x 0) : (⟨1, ![n]⟩ : Shape).Idx) = x from funext fun a => by rw [Fin.eq_zero a]; rfl]
      exact hh
  by_cases hx : ∃ x, mask x = 1 ∧ (idxs 0 x).toNat = (j 0).val
  · rw [if_pos hx, if_pos (hiff.mpr hx)]
  · rw [if_neg hx, if_neg (fun hh => hx (hiff.mp hh))]

/-- An index clipped into the range `0 … 11999` is below `12000`. -/
theorem clip_lt (x : BitVec 32) : (IntOp.minsi 11999#32 (IntOp.maxsi 0#32 x)).toNat < 12000 := by
  have c0 : (0#32).toInt = 0 := by decide
  have c1 : (11999#32).toInt = 11999 := by decide
  have hx := BitVec.toInt_eq_toNat_cond x
  have hl := x.isLt
  unfold IntOp.minsi IntOp.maxsi
  simp only [BitVec.slt, decide_eq_true_eq, c0, c1]
  by_cases h : x.toInt < 0
  · rw [if_pos h, c0, if_neg (by omega)]; decide
  · rw [if_neg h]
    by_cases h2 : 11999 < x.toInt
    · rw [if_pos h2]; decide
    · rw [if_neg h2]; split at hx <;> omega

/-- An index from `1` to `11999` is not changed by the clip. -/
theorem clip_eq (x : BitVec 32) (h1 : (1#32).sle x = true) (h2 : x.slt 12000#32 = true) :
    IntOp.minsi 11999#32 (IntOp.maxsi 0#32 x) = x := by
  have c0 : (0#32).toInt = 0 := by decide
  have c1 : (11999#32).toInt = 11999 := by decide
  have c2 : (1#32).toInt = 1 := by decide
  have c3 : (12000#32).toInt = 12000 := by decide
  unfold IntOp.minsi IntOp.maxsi
  simp only [BitVec.slt, BitVec.sle, decide_eq_true_eq, c0, c1, c2, c3] at h1 h2 ⊢
  have h0 : ¬ x.toInt < 0 := by omega
  rw [if_neg h0, if_neg (by omega)]

end Cert.Proof.Lanes

end
-- ==== Proof.KPay.lean ====
/-
  The kernel's vector payloads, read lane by lane in the words of `Proof/Words.lean`.
-/
module

public import proofs.«01_k».proof.Proof.Words
public import proofs.«01_k».proof.Proof.Lanes
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen Cert.Proof.Words Cert.Proof.Lanes

open Idealize.ShloMosaic

variable {F : FTy → Type} [FloatOps F]

/-- The number of the task at coordinates `L`. -/
abbrev wid (L : grid0.Coords) : ℕ := 2 * (L 1).val + (L 0).val

theorem start_eq (L : grid0.Coords) :
    Scalar.muli (Scalar.addi (Scalar.muli (BitVec.ofNat 32 (L 1).val) 2#32) (BitVec.ofNat 32 (L 0).val)) 12000#32 = startW (wid L) := by
  show (BitVec.ofNat 32 (L 1).val * BitVec.ofNat 32 2 + BitVec.ofNat 32 (L 0).val) * BitVec.ofNat 32 12000 = BitVec.ofNat 32 (12000 * (2 * (L 1).val + (L 0).val))
  rw [← BitVec.ofNat_mul, ← BitVec.ofNat_add, ← BitVec.ofNat_mul]
  congr 1; omega

/-- The side condition of the indexed store holds of every clipped index. -/
theorem chk_ok (L : grid0.Coords) (a : BitVec 32) (v : Vec F S16 .i32) : k0_chk1 (k0_pay7 L a v) := by
  intro b x
  obtain rfl : b = 0 := Fin.eq_zero b
  exact clip_lt _

section Trip2

variable (L : grid0.Coords) (N : ℕ → BitVec 32) (v : Vec F S16 .i32) (T : ℕ) (hv : ∀ l : S16.Idx, v l = N (16 * T + (l 0).val))

include hv

theorem lead_scan (l : S16.Idx) : IntOp.addi (scan .sum v l) (lead N (16 * T)) = lead N (16 * T + (l 0).val + 1) := by
  rw [scan_sum (n := 16) v (fun k => N (16 * T + k)) hv l]
  unfold lead IntOp.addi
  rw [add_assoc, Finset.sum_range_add _ (16 * T), add_comm]

theorem pay3_apply (l : S16.Idx) : k0_pay3 (lead N (16 * T)) v l = lead N (16 * T + (l 0).val + 1) := lead_scan N v T hv l

theorem pay5_apply (l : S16.Idx) : k0_pay5 L (lead N (16 * T)) v l = rel N (startW (wid L)) (16 * T + (l 0).val) := by
  unfold rel
  rw [← pay3_apply N v T hv l, ← start_eq L]
  rfl

/-- After trip `T` the carried word is the sum of the counts read so far. -/
theorem pay9_last (h) : Scalar.addi (lead N (16 * T)) (extractAt ![15] (k0_pay9 v) h) = lead N (16 * (T + 1)) := by
  have := lead_scan N v T hv (fun a => ⟨(![15] : Fin 1 → ℕ) a, h a⟩)
  refine (add_comm _ _).trans (this.trans ?_)
  rw [mul_add]; rfl

end Trip2

theorem ofBool_one (b : Bool) : BitVec.ofBool b = 1#1 ↔ b = true := by cases b <;> decide

theorem pay4_apply (t : Fin k0_t2_loop.trips) (l : S16.Idx) : k0_pay4 t l = 1#1 ↔ 16 * t.val + (l 0).val < 4095 := by
  have ht : t.val < 256 := lt_of_lt_of_le t.isLt k0_t2_abs.2.1
  have hl : (l 0).val < 16 := (l 0).isLt
  have e : k0_pay4 t l = BitVec.ofBool ((BitVec.ofNat 32 (16 * t.val + (l 0).val)).slt 4095#32) := by
    have : IntOp.addi (Scalar.muli (Scf.iv 0#32 1#32 t) 16#32) (iota .scVector S16 32 [0] iota_S16_d0_w32_scVector l) = BitVec.ofNat 32 (16 * t.val + (l 0).val) := by
      show (0#32 + BitVec.ofNat 32 t.val * BitVec.ofNat 32 1) * BitVec.ofNat 32 16 + BitVec.ofNat 32 (0 * 16 + (l 0).val) = _
      rw [BitVec.zero_add, ← BitVec.ofNat_mul, ← BitVec.ofNat_mul, ← BitVec.ofNat_add]
      congr 1; omega
    rw [← this]; rfl
  rw [e, ofBool_one]
  have c1 : (4095#32).toInt = 4095 := by decide
  have c2 : (BitVec.ofNat 32 (16 * t.val + (l 0).val)).toInt = 16 * t.val + (l 0).val := by
    rw [BitVec.toInt_eq_toNat_cond, BitVec.toNat_ofNat, Nat.mod_eq_of_lt (by omega), if_pos (by omega)]; push_cast; rfl
  simp only [BitVec.slt, decide_eq_true_eq, c1, c2]
  omega

theorem andi_one (x y : BitVec 1) : IntOp.andi x y = 1#1 ↔ x = 1#1 ∧ y = 1#1 := by revert x y; decide

section Trip2

variable (L : grid0.Coords) (N : ℕ → BitVec 32) (v : Vec F S16 .i32) (t : Fin k0_t2_loop.trips) (hv : ∀ l : S16.Idx, v l = N (16 * t.val + (l 0).val))

include hv

theorem pay6_apply (l : S16.Idx) :
    k0_pay6 L t (lead N (16 * t.val)) v l = 1#1 ↔ Inside N (startW (wid L)) (16 * t.val + (l 0).val) := by
  have e : k0_pay6 L t (lead N (16 * t.val)) v l = IntOp.andi (IntOp.andi (k0_pay4 t l) (IntOp.cmpi .sge (k0_pay5 L (lead N (16 * t.val)) v l) 1#32))
      (IntOp.cmpi .slt (k0_pay5 L (lead N (16 * t.val)) v l) 12000#32) := rfl
  rw [e, andi_one, andi_one, pay4_apply, pay5_apply L N v t.val hv]
  unfold IntOp.cmpi
  rw [ofBool_one, ofBool_one]
  exact and_assoc

theorem pay7_apply (l : S16.Idx) (h : Inside N (startW (wid L)) (16 * t.val + (l 0).val)) :
    k0_pay7 L (lead N (16 * t.val)) v l = rel N (startW (wid L)) (16 * t.val + (l 0).val) := by
  have e : k0_pay7 L (lead N (16 * t.val)) v l = IntOp.minsi 11999#32 (IntOp.maxsi 0#32 (k0_pay5 L (lead N (16 * t.val)) v l)) := rfl
  rw [e, pay5_apply L N v t.val hv]
  exact clip_eq _ h.2.1 h.2.2

/-- Trip `t`'s indexed store adds the marks of molecules `16 t … 16 t + 15`. -/
theorem marks_step (f : Vec F S12000 .i32) (hf : ∀ x : S12000.Idx, f x = marks N (startW (wid L)) (16 * t.val) (x 0).val) (h) (x : S12000.Idx) :
    storeIdx f ![k0_pay7 L (lead N (16 * t.val)) v] k0_pay2 (k0_pay6 L t (lead N (16 * t.val)) v) false h x
      = marks N (startW (wid L)) (16 * (t.val + 1)) (x 0).val := by
  classical
  rw [storeIdx_const (n := 16) (N := 12000) f _ k0_pay2 _ h 1#32 (fun _ => rfl) x, hf]
  unfold marks
  by_cases hx : ∃ y : S16.Idx, k0_pay6 L t (lead N (16 * t.val)) v y = 1 ∧ ((![k0_pay7 L (lead N (16 * t.val)) v] : Fin 1 → IVec S16 32) 0 y).toNat = (x 0).val
  · rw [if_pos hx, if_pos]
    obtain ⟨y, h6, h7⟩ := hx
    have hy : (y 0).val < 16 := (y 0).isLt
    have hin := (pay6_apply L N v t hv y).mp h6
    replace h7 : (k0_pay7 L (lead N (16 * t.val)) v y).toNat = (x 0).val := h7
    rw [pay7_apply L N v t hv y hin] at h7
    exact ⟨_, by omega, hin, h7⟩
  · rw [if_neg hx]
    refine if_congr ⟨?_, ?_⟩ rfl rfl
    · rintro ⟨k, hk, hh⟩; exact ⟨k, by omega, hh⟩
    · rintro ⟨k, hk, hin, hr⟩
      by_cases hk' : k < 16 * t.val
      · exact ⟨k, hk', hin, hr⟩
      · refine absurd ⟨fun a => ⟨k - 16 * t.val, by rw [Fin.eq_zero a]; show _ < 16; omega⟩, ?_, ?_⟩ hx
        · refine (pay6_apply L N v t hv _).mpr ?_
          show Inside N _ (16 * t.val + (k - 16 * t.val))
          rwa [Nat.add_sub_cancel' (by omega)]
        · show (k0_pay7 L (lead N (16 * t.val)) v _).toNat = _
          rw [pay7_apply L N v t hv]
          · show (rel N _ (16 * t.val + (k - 16 * t.val))).toNat = _
            rwa [Nat.add_sub_cancel' (by omega)]
          · show Inside N _ (16 * t.val + (k - 16 * t.val))
            rwa [Nat.add_sub_cancel' (by omega)]

/-- Trip `t` adds, lane by lane, whether its molecules end at or before the share's start. -/
theorem below_step (a : IVec S16 32) (ha : ∀ l : S16.Idx, a l = below N (startW (wid L)) t.val (l 0).val) (l : S16.Idx) :
    k0_pay8 L t (lead N (16 * t.val)) a v l = below N (startW (wid L)) (t.val + 1) (l 0).val := by
  have e : k0_pay8 L t (lead N (16 * t.val)) a v l = IntOp.addi (a l) (Scalar.select (IntOp.andi (k0_pay4 t l)
      (IntOp.cmpi .sle (k0_pay3 (lead N (16 * t.val)) v l) (startW (wid L)))) 1#32 0#32) := by rw [← start_eq L]; rfl
  rw [e, pay3_apply N v t.val hv, ha]
  unfold below
  rw [Finset.sum_range_succ]
  refine congrArg _ ?_
  unfold Scalar.select
  refine if_congr ?_ rfl rfl
  refine (andi_one _ _).trans ?_
  rw [pay4_apply]
  unfold IntOp.cmpi
  rw [ofBool_one]

end Trip2

/-- After the second loop the sum of the lanes is the number of molecules ended at or before the share's start. -/
theorem pay10_last (N : ℕ → BitVec 32) (st : BitVec 32) (a : IVec S16 32) (ha : ∀ l : S16.Idx, a l = below N st 256 (l 0).val) (h) :
    extractAt ![15] (k0_pay10 a) h = run N st 0 := by
  have := scan_sum (n := 16) a (fun k => below N st 256 k) ha (fun a => ⟨(![15] : Fin 1 → ℕ) a, h a⟩)
  unfold run base
  rw [Finset.sum_range_zero, add_zero]
  exact this

section Trip3

variable (N : ℕ → BitVec 32) (st : BitVec 32) (v : Vec F S16 .i32) (T : ℕ) (hv : ∀ l : S16.Idx, v l = marks N st 4096 (16 * T + (l 0).val))

include hv

theorem run_scan (l : S16.Idx) : IntOp.addi (scan .sum v l) (run N st (16 * T)) = run N st (16 * T + (l 0).val + 1) := by
  rw [scan_sum (n := 16) v (fun k => marks N st 4096 (16 * T + k)) hv l]
  unfold run IntOp.addi
  rw [add_assoc (16 * T), Finset.sum_range_add _ (16 * T), ← add_assoc (base N st)]
  exact add_comm _ _

theorem pay11_apply (l : S16.Idx) : k0_pay11 (run N st (16 * T)) v l = run N st (16 * T + (l 0).val + 1) := run_scan N st v T hv l

theorem pay12_last (h) : Scalar.addi (run N st (16 * T)) (extractAt ![15] (k0_pay12 v) h) = run N st (16 * (T + 1)) := by
  have := run_scan N st v T hv (fun a => ⟨(![15] : Fin 1 → ℕ) a, h a⟩)
  refine (add_comm _ _).trans (this.trans ?_)
  rw [mul_add]; rfl

end Trip3

end Cert.Proof.KernelIdeal

end
-- ==== Proof.KTile.lean ====
/-
  The kernel's task on one vector subcore, with the values it leaves.
-/
module

public import proofs.«01_k».proof.Defs
public import proofs.«01_k».proof.Proof.KPay
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resources: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers and the words -/

variable (m : (ℓ : Loc nD τ sig) → Buf (Elt F) ℓ) (ρ : Dev nD → PrngReg)

/-- The counts and the call's result on device `d`. -/
abbrev nLoc (d : Dev nD) : Loc nD τ sig := (SparseCore.T d).loc main_arg3
abbrev oLoc (d : Dev nD) : Loc nD τ sig := (SparseCore.T d).loc main_v0

local notation "nV" => (Memref.whole Cert.KernelIdeal.main_arg3_scv : Memref Cert.KernelIdeal.sig Kind.scVector Space.hbm Cert.KernelIdeal.S4096 EltTy.i32)
local notation "oV" => (Memref.whole Cert.KernelIdeal.main_v0_scv : Memref Cert.KernelIdeal.sig Kind.scVector Space.hbm Cert.KernelIdeal.S383767 EltTy.i32)
local notation "sN" => (Memref.whole Cert.KernelIdeal.cc0_scratch0 : Memref Cert.KernelIdeal.sig Kind.scVector Space.vmem Cert.KernelIdeal.S4096 EltTy.i32)
local notation "sM" => (Memref.whole Cert.KernelIdeal.cc0_scratch1 : Memref Cert.KernelIdeal.sig Kind.scVector Space.vmem Cert.KernelIdeal.S12000 EltTy.i32)

/-- Count `k` of a whole array of counts; zero past its end. -/
def word (f : IVec S4096 32) (k : ℕ) : BitVec 32 := if h : k < 4096 then f (fun a => ⟨k, by rw [Fin.eq_zero a]; exact h⟩) else 0#32

/-- The counts of device `d` at launch, as words. -/
abbrev Nd (d : Dev nD) : ℕ → BitVec 32 := word (m (nLoc d))

/-- What the call leaves in its result. -/
def G (d : Dev nD) : Buf (Elt F) (oLoc d) := fun x => outW (Nd m d) (x 0).val

/-- The positions of task `w`. -/
def chunk (w : ℕ) : Finset S383767.Idx := Finset.univ.filter fun x => (x 0).val / 12000 = w

/-- A share of the counts, and the result's positions of task `w` whole. -/
abbrev nPts (d : Dev nD) (q : PosShare TreeShare) : sProp 𝕄 := nLoc d ↦{q} m (nLoc d)
abbrev oPts (d : Dev nD) (w : ℕ) (f : Buf (Elt F) (oLoc d)) : sProp 𝕄 := oLoc d ↦[chunk w]{fullShare} f

variable [FloatOps F]

section Tile

variable (d : Dev nD) (L : grid0.Coords)

abbrev cV (L : grid0.Coords) : Fin τ.nSC := (L 0).castLE hcore0
abbrev jV (L : grid0.Coords) : Fin τ.nSub := (L 1).castLE hsub0

abbrev tV : Thread nD τ := V d (cV L) (jV L)

/-- The share of the result the task writes, as the body spells it: a full one, and the last, shorter. -/
abbrev oFull (h : k0_cond1 L = 1#1) : Memref sig .scVector .hbm S12000 .i32 :=
  (oV).slice (Rect.unit (s := S383767) (k0_off4 L) S12000.size (k0_off4_inb L h)) (fun _ => rfl)
abbrev oLast (h : k0_cond2 L = 1#1) : Memref sig .scVector .hbm S11767 .i32 :=
  (oV).slice (Rect.unit (s := S383767) (k0_off5 L) S11767.size (k0_off5_inb L h)) (fun _ => rfl)

omit [FloatOps F] in
theorem wid_lt : wid L < 32 := by have := (L 0).isLt; have := (L 1).isLt; show 2 * (L 1).val + (L 0).val < 32; simp [Pipeline.Grid.bound] at *; omega

omit [FloatOps F] in
theorem cond1_iff : ∀ L : grid0.Coords, k0_cond1 L = 1#1 ↔ wid L < 31 := by decide +kernel
omit [FloatOps F] in
theorem cond2_iff : ∀ L : grid0.Coords, k0_cond2 L = 1#1 ↔ wid L = 31 := by decide +kernel

abbrev cNcell : GSem nD τ sig := (tV d L, .dma cc0_scratch2.sem)
abbrev cFcell : GSem nD τ sig := (tV d L, .dma cc0_scoped0.sem)
abbrev cLcell : GSem nD τ sig := (tV d L, .dma cc0_scoped1.sem)

omit [FloatOps F] in
theorem ownSems0_V :
    (ownSems0 (tV d L) : sProp 𝕄)
      = iprop(semVal (cNcell d L) 0 ∗ semVal (cFcell d L) 0 ∗ semVal (cLcell d L) 0
          ∗ bigSep ((((ownCells (tV d L)).erase (cNcell d L)).erase (cFcell d L)).erase (cLcell d L)) fun g => semVal g 0) := by
  unfold SparseCore.Cfg.ownSems0
  rw [SparseCore.bigSep_erase' ((mem_ownCells (g := cNcell d L)).mpr ⟨rfl, by
      show (SemLoc.dma cc0_scratch2.sem : SemLoc sig).isScoped .scVector = true; decide⟩),
    SparseCore.bigSep_erase' (Finset.mem_erase.mpr ⟨by simp [cNcell, cFcell]; decide, (mem_ownCells (g := cFcell d L)).mpr ⟨rfl, by
      show (SemLoc.dma cc0_scoped0.sem : SemLoc sig).isScoped .scVector = true; decide⟩⟩),
    SparseCore.bigSep_erase' (Finset.mem_erase.mpr ⟨by simp [cFcell, cLcell]; decide, Finset.mem_erase.mpr ⟨by simp [cNcell, cLcell]; decide,
      (mem_ownCells (g := cLcell d L)).mpr ⟨rfl, by show (SemLoc.dma cc0_scoped1.sem : SemLoc sig).isScoped .scVector = true; decide⟩⟩⟩)]

omit [FloatOps F] in
theorem ownBufs_V :
    (ownBufs (tV d L) : sProp 𝕄)
      = iprop((∃ f, (tV d L).loc cc0_scratch0 ↦{fullShare} f) ∗ (∃ f, (tV d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The loops' memory, element by element -/

theorem load_n (f : Buf (Elt F) ((sN).view.loc (tV d L))) (t : Fin k0_t2_loop.trips) (l : S16.Idx) :
    View.readAt (Elt F) (sN).view (Rect.unit (s := S4096) (k0_off2 t) S16.size (k0_off2_inb t)).toLoadRect f l = word f (16 * t.val + (l 0).val) := by
  have ht : t.val < 256 := lt_of_lt_of_le t.isLt k0_t2_abs.2.1
  have hl : (l 0).val < 16 := (l 0).isLt
  unfold word
  rw [dif_pos (by omega)]
  refine congrArg f (funext fun a => Fin.ext ?_)
  obtain rfl : a = 0 := Fin.eq_zero a
  show (k0_off2 t) 0 + 1 * (l 0).val = 16 * t.val + (l 0).val
  rw [k0_off2_eq, one_mul]; rfl

theorem load_m (f : Buf (Elt F) ((sM).view.loc (tV d L))) (t : Fin k0_t3_loop.trips) (g : ℕ → BitVec 32)
    (hf : ∀ x : S12000.Idx, 16 * t.val ≤ (x 0).val → f x = g (x 0).val) (l : S16.Idx) :
    View.readAt (Elt F) (sM).view (Rect.unit (s := S12000) (k0_off3 t) S16.size (k0_off3_inb t)).toLoadRect f l = g (16 * t.val + (l 0).val) := by
  have e : (((Rect.unit (s := S12000) (k0_off3 t) S16.size (k0_off3_inb t)).toLoadRect.idx l : S12000.Idx) 0).val = 16 * t.val + (l 0).val := by
    show (k0_off3 t) 0 + 1 * (l 0).val = 16 * t.val + (l 0).val
    rw [k0_off3_eq, one_mul]; rfl
  rw [← e]
  exact hf ((Rect.unit (s := S12000) (k0_off3 t) S16.size (k0_off3_inb t)).toLoadRect.idx l) (e ▸ Nat.le_add_right _ _)

/-- A store of sixteen lanes at `o`: below `o` nothing changes; -/
theorem write_below (f : Buf (Elt F) ((sM).view.loc (tV d L))) (off : Fin 1 → ℕ) (o : ℕ) (ho : off = ![o]) (inb) (w : Vec F S16 .i32) (x : S12000.Idx)
    (hx : (x 0).val < o ∨ o + 16 ≤ (x 0).val) : (sM).view.writes (Elt F) f [⟨Rect.unit (s := S12000) off S16.size inb, w⟩] x = f x := by
  subst ho
  exact View.read_writes_cons_miss_of_axis (sM).view f _ [] x 0 o 16 rfl rfl rfl hx

/-- from `o` on, the lanes. -/
theorem write_at (f : Buf (Elt F) ((sM).view.loc (tV d L))) (off : Fin 1 → ℕ) (o : ℕ) (ho : off = ![o]) (inb) (w : Vec F S16 .i32) (x : S12000.Idx)
    (hx : o ≤ (x 0).val) (hx' : (x 0).val < o + 16) :
    (sM).view.writes (Elt F) f [⟨Rect.unit (s := S12000) off S16.size inb, w⟩] x
      = w (fun a => ⟨(x 0).val - o, by rw [Fin.eq_zero a]; show _ < 16; omega⟩) := by
  subst ho
  refine View.read_writes_cons_hit_of_coords (sM).view f (Rect.unit (s := S12000) ![o] S16.size inb) w [] _ x fun a => ?_
  obtain rfl : a = 0 := Fin.eq_zero a
  show (x 0).val = o + 1 * ((x 0).val - o)
  omega

omit [FloatOps F] in
theorem set_oFull (h : k0_cond1 L = 1#1) : (oFull L h).view.set = chunk (wid L) := by
  have hw := (cond1_iff L).mp h
  refine (View.set_slice_whole main_v0_scv _).trans ?_
  ext i
  rw [Rect.mem_set_unit, k0_off4_eq]
  unfold chunk
  rw [Finset.mem_filter, and_iff_right (Finset.mem_univ _)]
  constructor
  · intro hh
    have h0 := hh 0
    replace h0 : 24000 * (L 1).val + 12000 * (L 0).val ≤ (i 0).val ∧ (i 0).val < 24000 * (L 1).val + 12000 * (L 0).val + 12000 := h0
    unfold wid; omega
  · intro hh a
    obtain rfl : a = 0 := Fin.eq_zero a
    show 24000 * (L 1).val + 12000 * (L 0).val ≤ (i 0).val ∧ (i 0).val < 24000 * (L 1).val + 12000 * (L 0).val + 12000
    unfold wid at hh; omega

omit [FloatOps F] in
theorem set_oLast (h : k0_cond2 L = 1#1) : (oLast L h).view.set = chunk (wid L) := by
  have hw := (cond2_iff L).mp h
  refine (View.set_slice_whole main_v0_scv _).trans ?_
  ext i
  have hi : (i 0).val < 383767 := (i 0).isLt
  rw [Rect.mem_set_unit, k0_off5_eq]
  unfold chunk
  rw [Finset.mem_filter, and_iff_right (Finset.mem_univ _)]
  constructor
  · intro hh
    have h0 := hh 0
    replace h0 : 24000 * (L 1).val + 12000 * (L 0).val ≤ (i 0).val ∧ (i 0).val < 24000 * (L 1).val + 12000 * (L 0).val + 11767 := h0
    unfold wid; omega
  · intro hh a
    obtain rfl : a = 0 := Fin.eq_zero a
    show 24000 * (L 1).val + 12000 * (L 0).val ≤ (i 0).val ∧ (i 0).val < 24000 * (L 1).val + 12000 * (L 0).val + 11767
    unfold wid at hh hw; omega

/-- What the task of a full share writes is the call's result on its positions; -/
theorem out_full (h : k0_cond1 L = 1#1) (f0 : Buf (Elt F) (oLoc d)) (w : IVec S12000 32)
    (hw : ∀ x : S12000.Idx, w x = run (Nd m d) (startW (wid L)) ((x 0).val + 1)) :
    oPts d (wid L) (G m d)
      = ((oFull L h).view.loc (tV d L) ↦[(oFull L h).view.set]{fullShare} (oFull L h).view.writes (Elt F) f0 [⟨Rect.whole S12000, w⟩] : sProp 𝕄) := by
  rw [set_oFull]
  refine pointsTo_congr fun i hi => ?_
  rw [← set_oFull L h] at hi
  obtain ⟨x, -, rfl⟩ := Finset.mem_map.mp hi
  have hr := View.read_writes_cons_hit_of_coords (oFull L h).view f0 (Rect.whole S12000) w [] x x fun a => by
    show (x a).val = 0 + 1 * (x a).val
    omega
  rw [View.read_apply, cast_eq] at hr
  rw [hr]
  have hx : (x 0).val < 12000 := (x 0).isLt
  have he : (((oFull L h).view.emb x : S383767.Idx) 0).val = 12000 * wid L + (x 0).val := by
    show (k0_off4 L) 0 + 1 * (x 0).val = _
    rw [k0_off4_eq]
    show 24000 * (L 1).val + 12000 * (L 0).val + 1 * (x 0).val = 12000 * (2 * (L 1).val + (L 0).val) + (x 0).val
    omega
  rw [hw]
  show outW (Nd m d) (((oFull L h).view.emb x : S383767.Idx) 0).val = _
  rw [he]
  unfold outW
  rw [show (12000 * wid L + (x 0).val) / 12000 = wid L by omega, show (12000 * wid L + (x 0).val) % 12000 = (x 0).val by omega]

/-- so is what the task of the last, shorter share writes. -/
theorem out_last (h : k0_cond2 L = 1#1) (f0 : Buf (Elt F) (oLoc d)) (w : IVec S11767 32)
    (hw : ∀ x : S11767.Idx, w x = run (Nd m d) (startW (wid L)) ((x 0).val + 1)) :
    oPts d (wid L) (G m d)
      = ((oLast L h).view.loc (tV d L) ↦[(oLast L h).view.set]{fullShare} (oLast L h).view.writes (Elt F) f0 [⟨Rect.whole S11767, w⟩] : sProp 𝕄) := by
  rw [set_oLast]
  refine pointsTo_congr fun i hi => ?_
  rw [← set_oLast L h] at hi
  obtain ⟨x, -, rfl⟩ := Finset.mem_map.mp hi
  have hr := View.read_writes_cons_hit_of_coords (oLast L h).view f0 (Rect.whole S11767) w [] x x fun a => by
    show (x a).val = 0 + 1 * (x a).val
    omega
  rw [View.read_apply, cast_eq] at hr
  rw [hr]
  have hx : (x 0).val < 11767 := (x 0).isLt
  have he : (((oLast L h).view.emb x : S383767.Idx) 0).val = 12000 * wid L + (x 0).val := by
    show (k0_off5 L) 0 + 1 * (x 0).val = _
    rw [k0_off5_eq]
    show 24000 * (L 1).val + 12000 * (L 0).val + 1 * (x 0).val = 12000 * (2 * (L 1).val + (L 0).val) + (x 0).val
    omega
  rw [hw]
  show outW (Nd m d) (((oLast L h).view.emb x : S383767.Idx) 0).val = _
  rw [he]
  unfold outW
  rw [show (12000 * wid L + (x 0).val) / 12000 = wid L by omega, show (12000 * wid L + (x 0).val) % 12000 = (x 0).val by omega]

omit [FloatOps F] in
/-- The last share's source starts at the slab's first element. -/
theorem at_last (x : S11767.Idx) :
    ((((sM).slice (Rect.unit (s := S12000) ![0] S11767.size inb_S12000_S11767_0) (fun _ => rfl)).view.emb x : S12000.Idx) 0).val = (x 0).val := by
  show 0 + 1 * (x 0).val = (x 0).val
  omega

omit [FloatOps F] in
/-- A wait names no call, or the only one. -/
theorem waits_any (p : SemLoc sig × HIx 1) : p.2 = none ∨ p.2 = some (0 : Fin 1) := by
  rcases p.2 with _ | c
  · exact .inl rfl
  · exact .inr (congrArg some (Fin.eq_zero c))

/-- The indexed store of trip `t`, as the buffer's contents. -/
theorem store_marks (N : ℕ → BitVec 32) (v : Vec F S16 .i32) (t : Fin k0_t2_loop.trips) (hv : ∀ l : S16.Idx, v l = N (16 * t.val + (l 0).val))
    (f : Buf (Elt F) ((sM).view.loc (tV d L))) (hf : ∀ x : S12000.Idx, f x = marks N (startW (wid L)) (16 * t.val) (x 0).val) (h) (x : S12000.Idx) :
    View.write (Elt F) ((sM).access (.whole S12000)) f
      (storeIdx (View.read (Elt F) ((sM).access (.whole S12000)) f) ![k0_pay7 L (lead N (16 * t.val)) v] k0_pay2 (k0_pay6 L t (lead N (16 * t.val)) v) false h) Finset.univ x
      = marks N (startW (wid L)) (16 * (t.val + 1)) (x 0).val := by
  refine (congrFun (Memref.write_access_whole_univ (Elt F) cc0_scratch1 f _) x).trans ?_
  rw [show View.read (Elt F) ((sM).access (.whole S12000)) f = f from Memref.read_access_whole (Elt F) cc0_scratch1 f]
  exact marks_step L N v t hv f hf h x

theorem trips1 : Scf.trips k0_t1_loop.lb k0_t1_loop.ub k0_t1_loop.st = 750 := by decide +kernel
theorem trips2 : Scf.trips k0_t2_loop.lb k0_t2_loop.ub k0_t2_loop.st = 256 := by decide +kernel
theorem trips3 : Scf.trips k0_t3_loop.lb k0_t3_loop.ub k0_t3_loop.st = 750 := by decide +kernel

theorem fetched (fn : Buf (Elt F) ((sN).view.loc (tV d L))) (w : IVec S4096 32) :
    View.write (Elt F) (sN).view fn w Finset.univ = w := View.write_whole_univ (Val := Elt F) cc0_scratch0 fn w

set_option maxHeartbeats 2000000 in
theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp
        ∗ (nPts m d q ∗ oPts d (wid L) (m (oLoc d)))
        ∗ scopedBufs (tV d L) ∗ scopedSems0 (tV d L) ∗ owes (tV d L) O W)
      ⊢ wp frame (wpE (defs₀ (F := F)) 𝒱₀ (tV d L) none) Set.univ
          (cc0_collate_kernel L nV (Memref.isWhole_whole _) oV (Memref.isWhole_whole _) sN (Memref.isWhole_whole _) sM (Memref.isWhole_whole _)
            cc0_scratch2 cc0_scoped0 cc0_scoped1)
          fun _ => iprop((nPts m d q ∗ oPts d (wid L) (G m d))
            ∗ scopedBufs (tV d L) ∗ scopedSems0 (tV d L)
            ∗ ∃ W', ⌜∀ p ∈ W', p ∈ W ∨ p.2 = none ∨ p.2 = some (0 : Fin 1)⌝ ∗ owes (tV d L) O W') := by
  rw [(K (F := F)).scopedBufs_V hF d (cV L) (jV L), SparseCore.Cfg.scopedSems0_V (Val := Elt F) d (cV L) (jV L), ownSems0_V, ownBufs_V]
  simp only [cc0_collate_kernel_eq_skeleton]; unfold cc0_collate_kernel_skel
  iintro ⟨#Hlv, -, ⟨Hn, Ho⟩, ⟨⟨%fn, HsN⟩, ⟨%fm, HsM⟩, Hbufs⟩, ⟨HsemN, HsemF, HsemL, Hsems⟩, HO⟩
  ihave Hmw := (show levAts (K (F := F)).L (K (F := F)).lev ⊢ Transfers.MayWaits (tV d L) (default : HIx 1) O from
    (K (F := F)).mayWaits_none (thr := tV d L) hO) $$ Hlv
  ihave Hn' := (show (nLoc d ↦{q} m (nLoc d) : sProp 𝕄) ⊢ (nV).view.loc (tV d L) ↦{q} m (nLoc d) from Entails.of_eq rfl) $$ Hn
  ihave HsN' := (show ((tV d L).loc cc0_scratch0 ↦{fullShare} fn : sProp 𝕄) ⊢ (sN).view.loc (tV d L) ↦{fullShare} fn from Entails.of_eq rfl) $$ HsN
  ihave HsM' := (show ((tV d L).loc cc0_scratch1 ↦{fullShare} fm : sProp 𝕄) ⊢ (sM).view.loc (tV d L) ↦{fullShare} fm from Entails.of_eq rfl) $$ HsM
  sl_exec
  sl_for (fun t (_ : BitVec 32) => iprop(∃ f : Buf (Elt F) ((sM).view.loc (tV d L)), ((sM).view.loc (tV d L) ↦{fullShare} f)
    ∗ ⌜∀ x : S12000.Idx, (x 0).val < 16 * t → f x = 0#32⌝)) $$ [HsM']
  case region =>
    intro t a
    iintro ⟨%f, Hf, %hf⟩
    sl_exec
    sl_step
    iexists _
    isplitl
    · iexact Hf
    ipureintro
    intro x hx
    by_cases h : (x 0).val < 16 * t.val
    · rw [write_below d L f _ _ (k0_off1_eq t) _ _ _ (.inl h)]; exact hf x h
    · rw [write_at d L f _ _ (k0_off1_eq t) _ _ _ (by omega) (by omega)]; rfl
  · iexists _; isplitl
    · iexact HsM'
    · ipureintro; intro x hx; omega
  iintro %_ ⟨%f1, Hf1, %hf1⟩
  sl_exec
  sl_for (fun t (a : BitVec 32 × IVec S16 32) => iprop(∃ f : Buf (Elt F) ((sM).view.loc (tV d L)),
    ((sN).view.loc (tV d L) ↦{fullShare} m (nLoc d)) ∗ ((sM).view.loc (tV d L) ↦{fullShare} f)
    ∗ ⌜(∀ x : S12000.Idx, f x = marks (Nd m d) (startW (wid L)) (16 * t) (x 0).val) ∧ a.1 = lead (Nd m d) (16 * t)
        ∧ ∀ l : S16.Idx, a.2 l = below (Nd m d) (startW (wid L)) t (l 0).val⌝)) $$ [Hf1 HsN']
  case region =>
    intro t a
    obtain ⟨a1, a2⟩ := a
    iintro ⟨%f, HN, Hf, %hf⟩
    obtain ⟨hfm, ha1, ha2⟩ := hf
    simp only at ha1 ha2
    subst ha1
    have hld := load_n d L (m (nLoc d)) t
    sl_exec (disch := exact chk_ok _ _ _)
    simp only [bind_assoc]
    iapply (SparseCore.wp_vectorStoreIdx 𝒱₀ (tV d L) none Set.univ (f := f)) $$ [Hf]
    · rw [show ((sM).access (.whole S12000)).set = Finset.univ from Memref.set_access_whole cc0_scratch1]
      iexact Hf
    rw [show ((sM).access (.whole S12000)).set = Finset.univ from Memref.set_access_whole cc0_scratch1]
    iintro Hf
    sl_exec
    sl_step
    iexists _
    isplitl [HN]
    · iexact HN
    isplitl [Hf]
    · iexact Hf
    ipureintro
    refine ⟨fun x => ?_, ?_, ?_⟩
    · exact store_marks d L (Nd m d) _ t hld f hfm _ x
    · exact pay9_last (Nd m d) _ t.val hld _
    · exact below_step L (Nd m d) _ t hld a2 ha2
  · iexists f1
    isplitl [HsN']
    · rw [fetched]
      iexact HsN'
    isplitl [Hf1]
    · iexact Hf1
    ipureintro
    refine ⟨fun x => ?_, ?_, fun l => ?_⟩
    · rw [hf1 x (by rw [trips1]; exact (x 0).isLt)]
      unfold marks
      rw [if_neg (by rintro ⟨k, hk, -⟩; omega)]
    · rfl
    · rfl
  iintro %acc ⟨%f2, HN, Hf2, %hf2⟩
  obtain ⟨a1, a2⟩ := acc
  obtain ⟨hm2, -, hb2⟩ := hf2
  simp only at hb2
  rw [trips2] at hm2 hb2
  have hv12 := pay10_last (Nd m d) (startW (wid L)) a2 hb2 inpos_S16_p15
  sl_exec
  sl_for (fun t (a : BitVec 32) => iprop(∃ f : Buf (Elt F) ((sM).view.loc (tV d L)), ((sM).view.loc (tV d L) ↦{fullShare} f)
    ∗ ⌜(∀ x : S12000.Idx, (x 0).val < 16 * t → f x = run (Nd m d) (startW (wid L)) ((x 0).val + 1))
        ∧ (∀ x : S12000.Idx, 16 * t ≤ (x 0).val → f x = marks (Nd m d) (startW (wid L)) 4096 (x 0).val)
        ∧ a = run (Nd m d) (startW (wid L)) (16 * t)⌝)) $$ [Hf2]
  case region =>
    intro t a
    iintro ⟨%f, Hf, %hf⟩
    obtain ⟨hlo, hhi, ha⟩ := hf
    subst ha
    have hld := load_m d L f t (marks (Nd m d) (startW (wid L)) 4096) hhi
    sl_exec
    sl_step
    iexists _
    isplitl [Hf]
    · iexact Hf
    ipureintro
    refine ⟨fun x hx => ?_, fun x hx => ?_, ?_⟩
    · by_cases h : (x 0).val < 16 * t.val
      · rw [write_below d L f _ _ (k0_off3_eq t) _ _ _ (.inl h)]; exact hlo x h
      · rw [write_at d L f _ _ (k0_off3_eq t) _ _ _ (by omega) (by omega)]
        refine (pay11_apply (Nd m d) (startW (wid L)) _ t.val hld _).trans ?_
        show run _ _ (16 * t.val + ((x 0).val - 16 * t.val) + 1) = _
        rw [Nat.add_sub_cancel' (by omega)]
    · rw [write_below d L f _ _ (k0_off3_eq t) _ _ _ (.inr (by omega))]; exact hhi x (by omega)
    · exact pay12_last (Nd m d) (startW (wid L)) _ t.val hld _
  · iexists f2
    isplitl [Hf2]
    · iexact Hf2
    ipureintro
    exact ⟨fun x hx => absurd hx (by omega), fun x _ => hm2 x, hv12⟩
  iintro %_ ⟨%f3, Hf3, %hf3⟩
  have hf3' : ∀ x : S12000.Idx, f3 x = run (Nd m d) (startW (wid L)) ((x 0).val + 1) := fun x => hf3.1 x (by
    rw [trips3]; exact (x 0).isLt)
  have hw := wid_lt L
  by_cases h1 : k0_cond1 L = 1#1
  · have h2 : ¬ k0_cond2 L = 1#1 := by rw [cond2_iff]; have := (cond1_iff L).mp h1; omega
    ihave Ho' := (show (oPts d (wid L) (m (oLoc d)) : sProp 𝕄) ⊢ (oFull L h1).view.loc (tV d L) ↦[(oFull L h1).view.set]{fullShare} m (oLoc d) from
      Entails.of_eq (by rw [set_oFull])) $$ Ho
    sl_exec (disch := exact View.amount_pos _ _ (show 0 < S12000.numel by decide))
    sl_step
    isplitl [Hn' Ho']
    · isplitl [Hn']
      · iexact Hn'
      · rw [out_full m d L h1 (m (oLoc d)) _ fun x => hf3' x]
        iexact Ho'
    isplitl [Hf3 HN Hbufs]
    · isplitl [HN]
      · iexists _; iexact HN
      isplitl [Hf3]
      · iexists _; iexact Hf3
      · iexact Hbufs
    isplitl [HsemN HsemF HsemL Hsems]
    · isplitl [HsemN]
      · iexact HsemN
      isplitl [HsemF]
      · iexact HsemF
      isplitl [HsemL]
      · iexact HsemL
      · iexact Hsems
    iexists _
    isplitr
    swap
    · iexact HO
    ipureintro
    exact fun p _ => .inr (waits_any p)
  · have h2 : k0_cond2 L = 1#1 := by rw [cond2_iff]; have := (cond1_iff L).not.mp h1; omega
    ihave Ho' := (show (oPts d (wid L) (m (oLoc d)) : sProp 𝕄) ⊢ (oLast L h2).view.loc (tV d L) ↦[(oLast L h2).view.set]{fullShare} m (oLoc d) from
      Entails.of_eq (by rw [set_oLast])) $$ Ho
    sl_exec (disch := exact View.amount_pos _ _ (show 0 < S11767.numel by decide))
    sl_step
    isplitl [Hn' Ho']
    · isplitl [Hn']
      · iexact Hn'
      · rw [out_last m d L h2 (m (oLoc d)) _ fun x => (hf3' _).trans (congrArg (run (Nd m d) (startW (wid L))) (congrArg (· + 1) (at_last x)))]
        iexact Ho'
    isplitl [Hf3 HN Hbufs]
    · isplitl [HN]
      · iexists _; iexact HN
      isplitl [Hf3]
      · iexists _; iexact Hf3
      · iexact Hbufs
    isplitl [HsemN HsemF HsemL Hsems]
    · isplitl [HsemN]
      · iexact HsemN
      isplitl [HsemF]
      · iexact HsemF
      isplitl [HsemL]
      · iexact HsemL
      · iexact Hsems
    iexists _
    isplitr
    swap
    · iexact HO
    ipureintro
    exact fun p _ => .inr (waits_any p)

end Tile

end Cert.Proof.KernelIdeal

end
-- ==== Proof.KRun.lean ====
/-
  The launch: the SparseCore call's shares dealt to the cores and the tasks and gathered again, the
  host operations after it, and the run of the whole program with the contents it leaves.
-/
module

public import proofs.«01_k».proof.Proof.KTile
public import Idealize.ShloMosaic.Lib.Pipeline.Frame
public import Idealize.ShloMosaic.Lib.Transfers

@[expose] public section

noncomputable section

namespace Cert.Proof.KernelIdeal

open Cert.KernelIdeal Cert.KernelIdeal.Gen Cert.Proof.Words

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open Idealize.ShloMosaic.Pipeline (ucRefs unscopedBufs_held sub_ucRefs)

variable {F : FTy → Type}

local notation "𝕄" => MT nD τ sig (HIx 1) (Elt F) ℕ UU ℕ

local notation "nV" => (Memref.whole Cert.KernelIdeal.main_arg3_scv : Memref Cert.KernelIdeal.sig Kind.scVector Space.hbm Cert.KernelIdeal.S4096 EltTy.i32)
local notation "oV" => (Memref.whole Cert.KernelIdeal.main_v0_scv : Memref Cert.KernelIdeal.sig Kind.scVector Space.hbm Cert.KernelIdeal.S383767 EltTy.i32)
local notation "sN" => (Memref.whole Cert.KernelIdeal.cc0_scratch0 : Memref Cert.KernelIdeal.sig Kind.scVector Space.vmem Cert.KernelIdeal.S4096 EltTy.i32)
local notation "sM" => (Memref.whole Cert.KernelIdeal.cc0_scratch1 : Memref Cert.KernelIdeal.sig Kind.scVector Space.vmem Cert.KernelIdeal.S12000 EltTy.i32)

variable (m : (ℓ : Loc nD τ sig) → Buf (Elt F) ℓ) (ρ : Dev nD → PrngReg)

/-! ## The shares -/

/-- The share of the counts that core `c` reads under, and the one its task `i` reads under. -/
def qC (c : Fin 2) : PosShare TreeShare := Transfers.dealOf fullShare Finset.univ c
def qT (c : Fin 2) (i : Fin 16) : PosShare TreeShare := Transfers.dealOf (qC c) Finset.univ i

/-- Task `i` of core `c` is number `2 i + c`. -/
def tk (c : Fin 2) (i : Fin 16) : ℕ := 2 * i.val + c.val

/-- The result's positions that core `c`'s tasks write. -/
def coreSet (c : Fin 2) : Finset S383767.Idx := Finset.univ.biUnion fun i : Fin 16 => chunk (tk c i)

abbrev oCore (d : Dev nD) (c : Fin 2) (f : Buf (Elt F) (oLoc d)) : sProp 𝕄 := oLoc d ↦[coreSet c]{fullShare} f
abbrev oAll (d : Dev nD) (f : Buf (Elt F) (oLoc d)) : sProp 𝕄 := oLoc d ↦{fullShare} f

theorem mem_coreSet {c : Fin 2} {x : S383767.Idx} (h : x ∈ coreSet c) : (x 0).val / 12000 % 2 = c.val := by
  obtain ⟨i, -, hi⟩ := Finset.mem_biUnion.mp h
  have h1 : (x 0).val / 12000 = 2 * i.val + c.val := (Finset.mem_filter.mp hi).2
  have := c.isLt
  omega

theorem coreSet_cover : (Finset.univ : Finset S383767.Idx) = Finset.univ.biUnion coreSet := by
  refine (Finset.eq_univ_iff_forall.mpr fun x => ?_).symm
  have hx : (x 0).val < 383767 := (x 0).isLt
  refine Finset.mem_biUnion.mpr ⟨⟨(x 0).val / 12000 % 2, Nat.mod_lt _ (by omega)⟩, Finset.mem_univ _, ?_⟩
  refine Finset.mem_biUnion.mpr ⟨⟨(x 0).val / 12000 / 2, by omega⟩, Finset.mem_univ _, ?_⟩
  refine Finset.mem_filter.mpr ⟨Finset.mem_univ _, ?_⟩
  show (x 0).val / 12000 = 2 * ((x 0).val / 12000 / 2) + (x 0).val / 12000 % 2
  omega

theorem coreSet_disjoint : ∀ c ∈ (Finset.univ : Finset (Fin 2)), ∀ c' ∈ (Finset.univ : Finset (Fin 2)), c ≠ c' → Disjoint (coreSet c) (coreSet c') :=
  fun c _ c' _ h => Finset.disjoint_left.mpr fun x hx hx' => h (Fin.ext ((mem_coreSet hx).symm.trans (mem_coreSet hx')))

theorem chunk_disjoint (c : Fin 2) : ∀ i ∈ (Finset.univ : Finset (Fin 16)), ∀ j ∈ (Finset.univ : Finset (Fin 16)), i ≠ j →
    Disjoint (chunk (tk c i)) (chunk (tk c j)) :=
  fun i _ j _ h => Finset.disjoint_left.mpr fun x hx hx' => h (Fin.ext (by
    have h1 : (x 0).val / 12000 = 2 * i.val + c.val := (Finset.mem_filter.mp hx).2
    have h2 : (x 0).val / 12000 = 2 * j.val + c.val := (Finset.mem_filter.mp hx').2
    omega))

/-- The whole result is its two cores' positions. -/
theorem oAll_cores (d : Dev nD) (f : Buf (Elt F) (oLoc d)) : (oAll d f : sProp 𝕄) = bigSep Finset.univ fun c : Fin 2 => oCore d c f := by
  show (oLoc d ↦[(Finset.univ : Finset S383767.Idx)]{fullShare} f : sProp 𝕄) = _
  rw [coreSet_cover]
  exact pointsTo_biUnion (ℓ := oLoc d) Finset.univ coreSet coreSet_disjoint

/-- A core's positions are its sixteen tasks'. -/
theorem oCore_tasks (d : Dev nD) (c : Fin 2) (f : Buf (Elt F) (oLoc d)) :
    (oCore d c f : sProp 𝕄) = bigSep Finset.univ fun i : Fin 16 => oPts d (tk c i) f :=
  pointsTo_biUnion (ℓ := oLoc d) Finset.univ (fun i : Fin 16 => chunk (tk c i)) (chunk_disjoint c)

theorem nAll_cores (d : Dev nD) : (nPts m d fullShare : sProp 𝕄) = bigSep Finset.univ fun c : Fin 2 => nPts m d (qC c) :=
  Transfers.pointsTo_deal Finset.univ ⟨0, Finset.mem_univ _⟩ fullShare
theorem nCore_tasks (d : Dev nD) (c : Fin 2) : (nPts m d (qC c) : sProp 𝕄) = bigSep Finset.univ fun i : Fin 16 => nPts m d (qT c i) :=
  Transfers.pointsTo_deal Finset.univ ⟨0, Finset.mem_univ _⟩ (qC c)

/-! ## What the call hands over -/

/-- A core gets its share of the counts and its positions of the result, and hands its tasks theirs; the positions come
    back holding `G`. -/
def P : (K (F := F)).Pay (nD := nD) (Val := Elt F) (Name := ℕ) (U := UU) where
  st := fun q d c => match q with | 0 => iprop(nPts m d (qC (Fin.cast nCore_zero c)) ∗ oCore d (Fin.cast nCore_zero c) (m (oLoc d)))
  dn := fun q d c => match q with | 0 => iprop(nPts m d (qC (Fin.cast nCore_zero c)) ∗ oCore d (Fin.cast nCore_zero c) (G m d))
  go := fun q d c i => match q with
    | 0 => iprop(nPts m d (qT (Fin.cast nCore_zero c) (Fin.cast nSub_zero i)) ∗ oPts d (tk (Fin.cast nCore_zero c) (Fin.cast nSub_zero i)) (m (oLoc d)))
  td := fun q d c i => match q with
    | 0 => iprop(nPts m d (qT (Fin.cast nCore_zero c) (Fin.cast nSub_zero i)) ∗ oPts d (tk (Fin.cast nCore_zero c) (Fin.cast nSub_zero i)) (G m d))
  x := fun _ _ => iprop(emp)

instance P_storable : (P (F := F) m).IsStorable where
  st q d c := match q with
    | 0 => (inferInstance : BI.Storable (upEmb : UEmb _ 𝕄) iprop(nPts m d (qC (Fin.cast nCore_zero c)) ∗ oCore d (Fin.cast nCore_zero c) (m (oLoc d))))
  dn q d c := match q with
    | 0 => (inferInstance : BI.Storable (upEmb : UEmb _ 𝕄) iprop(nPts m d (qC (Fin.cast nCore_zero c)) ∗ oCore d (Fin.cast nCore_zero c) (G m d)))
  go q d c i := match q with
    | 0 => (inferInstance : BI.Storable (upEmb : UEmb _ 𝕄)
        iprop(nPts m d (qT (Fin.cast nCore_zero c) (Fin.cast nSub_zero i)) ∗ oPts d (tk (Fin.cast nCore_zero c) (Fin.cast nSub_zero i)) (m (oLoc d))))
  td q d c i := match q with
    | 0 => (inferInstance : BI.Storable (upEmb : UEmb _ 𝕄)
        iprop(nPts m d (qT (Fin.cast nCore_zero c) (Fin.cast nSub_zero i)) ∗ oPts d (tk (Fin.cast nCore_zero c) (Fin.cast nSub_zero i)) (G m d)))

variable [FloatOps F]

/-! ## The tasks' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_collate_kernel (coordsV c s)
          nV (Memref.isWhole_whole _) oV (Memref.isWhole_whole _) sN (Memref.isWhole_whole _) sM (Memref.isWhole_whole _)
          cc0_scratch2 cc0_scoped0 cc0_scoped1) ⟨⟩ c s := rfl

/-- Every task, given what its core hands it, runs and hands its positions back written. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF (qT (Fin.cast nCore_zero c) (Fin.cast nSub_zero i)) O W hO

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core's resources are its tasks', before and after. -/
theorem vecSplit : (K (F := F)).VecSplit' (P m) 0 := by
  intro d c
  show iprop(nPts m d (qC (Fin.cast nCore_zero c)) ∗ oCore d (Fin.cast nCore_zero c) (m (oLoc d))) ⊢ |={Set.univ}=> iprop(
      (bigSep Finset.univ fun i : Fin ((K (F := F)).nSub 0) =>
        iprop(nPts m d (qT (Fin.cast nCore_zero c) (Fin.cast nSub_zero i)) ∗ oPts d (tk (Fin.cast nCore_zero c) (Fin.cast nSub_zero i)) (m (oLoc d))))
      ∗ ((bigSep Finset.univ fun i : Fin ((K (F := F)).nSub 0) =>
          iprop(nPts m d (qT (Fin.cast nCore_zero c) (Fin.cast nSub_zero i)) ∗ oPts d (tk (Fin.cast nCore_zero c) (Fin.cast nSub_zero i)) (G m d)))
          -∗ iprop(nPts m d (qC (Fin.cast nCore_zero c)) ∗ oCore d (Fin.cast nCore_zero c) (G m d))))
  rw [bigSep_tasks (F := F) (fun i => iprop(nPts m d (qT (Fin.cast nCore_zero c) i) ∗ oPts d (tk (Fin.cast nCore_zero c) i) (m (oLoc d)))),
    bigSep_tasks (F := F) (fun i => iprop(nPts m d (qT (Fin.cast nCore_zero c) i) ∗ oPts d (tk (Fin.cast nCore_zero c) i) (G m d))),
    bigSep_sep', bigSep_sep', ← nCore_tasks, ← oCore_tasks, ← oCore_tasks]
  iintro H; imodintro
  isplitl [H]; · iexact H
  iintro H; iexact H

/-! ## The launch element -/

omit [FloatOps F] in
/-- Nothing, many times over, is nothing. -/
theorem emps {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The host's operations -/

/-- The operations after the call, in order. -/
abbrev ops : List (HloOp τ sig (Elt F)) :=
  [ unary main_arg3 main_v1 ((extractStridedSlice S1 ![0] · slices_S4096_S1_0) : (⟨S4096, .i32⟩ : BufTy).Contents (Elt F) → (⟨S1, .i32⟩ : BufTy).Contents (Elt F)),
    reshape main_v1 main_v2 (rfl : (.i32 : EltTy) = .i32) shapeCasts_S1_S_,
    nullary main_c (constantI S_ 32 4294967295#32),
    binary main_v2 main_c main_v3 (cmpi .sge : (⟨S_, .i32⟩ : BufTy).Contents (Elt F) → (⟨S_, .i32⟩ : BufTy).Contents (Elt F) → (⟨S_, .i1⟩ : BufTy).Contents (Elt F)),
    nullary main_cst (constant S_ .f32 0x3F800000#32),
    nullary main_cst_0 (constant S_ .f32 0x40000000#32),
    TRef.ternary (TRef.of (T := ⟨S_, .i1⟩) main_v3) (TRef.of (T := ⟨S_, .f32⟩) main_cst) (TRef.of (T := ⟨S_, .f32⟩) main_cst_0) (TRef.of (T := ⟨S_, .f32⟩) main_v4) select,
    unary main_arg3 main_v5 ((extractStridedSlice S1 ![0] · slices_S4096_S1_0) : (⟨S4096, .i32⟩ : BufTy).Contents (Elt F) → (⟨S1, .i32⟩ : BufTy).Contents (Elt F)),
    reshape main_v5 main_v6 (rfl : (.i32 : EltTy) = .i32) shapeCasts_S1_S_,
    nullary main_c_1 (constantI S_ 32 4294967295#32),
    binary main_v6 main_c_1 main_v7 (cmpi .sge : (⟨S_, .i32⟩ : BufTy).Contents (Elt F) → (⟨S_, .i32⟩ : BufTy).Contents (Elt F) → (⟨S_, .i1⟩ : BufTy).Contents (Elt F)),
    nullary main_c_2 (constantI S_ 32 1#32),
    nullary main_c_3 (constantI S_ 32 2#32),
    TRef.ternary (TRef.of (T := ⟨S_, .i1⟩) main_v7) (TRef.of (T := ⟨S_, .i32⟩) main_c_2) (TRef.of (T := ⟨S_, .i32⟩) main_c_3) (TRef.of (T := ⟨S_, .i32⟩) main_v8) select,
    unary main_v8 main_v9 (broadcastInDim S383767 ![] bcast_S_S383767 : (⟨S_, .i32⟩ : BufTy).Contents (Elt F) → (⟨S383767, .i32⟩ : BufTy).Contents (Elt F)),
    binary main_arg0 main_v9 main_v10 (muli : (⟨S383767, .i32⟩ : BufTy).Contents (Elt F) → (⟨S383767, .i32⟩ : BufTy).Contents (Elt F) → (⟨S383767, .i32⟩ : BufTy).Contents (Elt F)),
    unary main_v4 main_v11 (broadcastInDim S383767x3 ![] bcast_S_S383767x3 : (⟨S_, .f32⟩ : BufTy).Contents (Elt F) → (⟨S383767x3, .f32⟩ : BufTy).Contents (Elt F)),
    binary main_arg1 main_v11 main_v12 (mulf : (⟨S383767x3, .f32⟩ : BufTy).Contents (Elt F) → (⟨S383767x3, .f32⟩ : BufTy).Contents (Elt F) → (⟨S383767x3, .f32⟩ : BufTy).Contents (Elt F)),
    unary main_v4 main_v13 (broadcastInDim S4096 ![] bcast_S_S4096 : (⟨S_, .f32⟩ : BufTy).Contents (Elt F) → (⟨S4096, .f32⟩ : BufTy).Contents (Elt F)),
    binary main_arg2 main_v13 main_v14 (mulf : (⟨S4096, .f32⟩ : BufTy).Contents (Elt F) → (⟨S4096, .f32⟩ : BufTy).Contents (Elt F) → (⟨S4096, .f32⟩ : BufTy).Contents (Elt F)),
    reshape main_v14 main_v15 (rfl : (.f32 : EltTy) = .f32) shapeCasts_S4096_S4096x1 ]

set_option maxRecDepth 8192 in
theorem main_eq (d : Dev nD) : main (F := F) d = (sc.run d 0 >>= fun _ => seq ops) := rfl

set_option maxRecDepth 8192 in
theorem ops_sub : (ops : List (HloOp τ sig (Elt F))).Forall fun op => op.bufs ⊆ tcRefs τ sig :=
  ⟨unary_bufs_sub .., reshape_bufs_sub .., nullary_bufs_sub .., binary_bufs_sub .., nullary_bufs_sub .., nullary_bufs_sub .., ternary_bufs_sub ..,
    unary_bufs_sub .., reshape_bufs_sub .., nullary_bufs_sub .., binary_bufs_sub .., nullary_bufs_sub .., nullary_bufs_sub .., ternary_bufs_sub ..,
    unary_bufs_sub .., binary_bufs_sub .., unary_bufs_sub .., binary_bufs_sub .., unary_bufs_sub .., binary_bufs_sub .., reshape_bufs_sub ..⟩

theorem ops_fresh : ∀ op ∈ (ops : List (HloOp τ sig (Elt F))), op.fresh = ∅ := by
  intro _ h; (repeat (cases h with | head => rfl | tail _ h => ?_)); exact nomatch h

/-- Device `d`'s buffers after the call: as at launch but for its result. -/
def V1 (d : Dev nD) : Valuation τ sig (Elt F) := Function.update (launchContents m d) (Proc.devRef .tc main_v0) (G m d)

/-- The call's two arrays. -/
abbrev callRefs : Finset (DevRef τ sig) := {Proc.devRef .tc main_arg3, Proc.devRef .tc main_v0}

omit [FloatOps F] in
theorem callRefs_sub : callRefs ⊆ ucRefs τ sig := by
  intro b hb
  rcases Finset.mem_insert.mp hb with h | h
  · subst h; exact Finset.mem_filter.mpr ⟨devRef_mem_tcRefs _, by decide⟩
  · rw [Finset.mem_singleton.mp h]; exact Finset.mem_filter.mpr ⟨devRef_mem_tcRefs _, by decide⟩

omit [FloatOps F] in
/-- The buffers held are the call's two and the others. -/
theorem held_call (d : Dev nD) (W : Valuation τ sig (Elt F)) :
    (held (d.tc : Thread nD τ) (ucRefs τ sig) W : sProp 𝕄)
      = iprop(((nLoc d ↦{fullShare} W (Proc.devRef .tc main_arg3)) ∗ (oLoc d ↦{fullShare} W (Proc.devRef .tc main_v0)))
          ∗ held (d.tc : Thread nD τ) (ucRefs τ sig \ callRefs) W) := by
  rw [held_sub_split (d.tc : Thread nD τ) callRefs_sub]
  congr 1
  unfold held
  rw [SparseCore.bigSep_insert' (by rw [Finset.mem_singleton]; exact devRef_ne_of_ne (by decide)), bigSep_singleton]

omit [FloatOps F] in
theorem V1_n (d : Dev nD) : V1 m d (Proc.devRef .tc main_arg3) = m (nLoc d) :=
  Function.update_of_ne (devRef_ne_of_ne (by decide)) _ _
omit [FloatOps F] in
theorem V1_o (d : Dev nD) : V1 m d (Proc.devRef .tc main_v0) = G m d := Function.update_self _ _ _
omit [FloatOps F] in
theorem V1_rest (d : Dev nD) :
    (held (d.tc : Thread nD τ) (ucRefs τ sig \ callRefs) (V1 m d) : sProp 𝕄) = held (d.tc : Thread nD τ) (ucRefs τ sig \ callRefs) (launchContents m d) :=
  held_congr (d.tc : Thread nD τ) fun b hb => Function.update_of_ne (fun h => (Finset.mem_sdiff.mp hb).2 (by
    rw [h]; exact Finset.mem_insert_of_mem (Finset.mem_singleton_self _))) _ _

/-! ## @main on the TensorCore -/

theorem st0_eq (d : Dev nD) :
    (bigSep Finset.univ fun c : Fin ((K (F := F)).nCore 0) => (P m).st 0 d c) = iprop(nPts m d fullShare ∗ oAll d (m (oLoc d))) := by
  show (bigSep Finset.univ fun c : Fin ((K (F := F)).nCore 0) => iprop(nPts m d (qC (Fin.cast nCore_zero c)) ∗ oCore d (Fin.cast nCore_zero c) (m (oLoc d)))) = _
  rw [bigSep_cores (F := F) fun c => iprop(nPts m d (qC c) ∗ oCore d c (m (oLoc d))), bigSep_sep', ← nAll_cores, ← oAll_cores]
theorem dn0_eq (d : Dev nD) :
    (bigSep Finset.univ fun c : Fin ((K (F := F)).nCore 0) => (P m).dn 0 d c) = iprop(nPts m d fullShare ∗ oAll d (G m d)) := by
  show (bigSep Finset.univ fun c : Fin ((K (F := F)).nCore 0) => iprop(nPts m d (qC (Fin.cast nCore_zero c)) ∗ oCore d (Fin.cast nCore_zero c) (G m d))) = _
  rw [bigSep_cores (F := F) fun c => iprop(nPts m d (qC c) ∗ oCore d c (G m d)), bigSep_sep', ← nAll_cores, ← oAll_cores]

/-- What @main ends holding on device `d`: its buffers at the host operations' results over the call's. -/
abbrev FIN (d : Dev nD) : sProp 𝕄 := held (d.tc : Thread nD τ) (ucRefs τ sig) (after ops (V1 m d))

set_option backward.isDefEq.respectTransparency.types false in
/-- @main on device `d`: the call from the counts and its result, then the host operations. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => (⟨m, fun _ => 0, ρ⟩ : MemSt nD τ sig (Elt F)).mem ((d.tc : Thread nD τ).loc b)) : sProp 𝕄)
      = held (d.tc : Thread nD τ) (ucRefs τ sig) (launchContents m d) from unscopedBufs_held d (launchContents m d), held_call, main_eq, wp_bind]
  iintro ⟨#Hctx, Hst, ⟨Hb, ⟨⟨Hn, Ho⟩, Hrest⟩, Hts, -⟩, -⟩
  iapply ((K (F := F)).wp_run (D (F := F)) 𝒱 (EH := EH) (P := P m) κ d 0) $$ [Hst Hn Ho Hb Hts Hrest]
  isplitr; · iexact Hctx
  isplitl [Hst]; · iexact Hst
  isplitl [Hn Ho]
  · rw [st0_eq]
    isplitl [Hn]; · iexact Hn
    iexact Ho
  iintro ⟨Hst, Hdn⟩
  ihave Hdn' := (Entails.of_eq (dn0_eq m d)) $$ Hdn
  icases Hdn' with ⟨Hn, Ho⟩
  rw [show seq (Λ := (SparseCore.Sig (ΛP (F := F)) 1)) (nD := nD) (ops (F := F)) = (seq ops >>= fun u => Pure.pure u) from (bind_pure _).symm]
  iapply (wp_seq 𝒱 none Set.univ d (ucRefs τ sig) (fun u => Pure.pure u) (ops (F := F))
    (fun op hop => sub_ucRefs op (List.forall_iff_forall_mem.1 ops_sub op hop)) ops_fresh (V1 m d)) $$ [Hb Hn Ho Hrest]
  · isplitl [Hb]; · iexact Hb
    rw [held_call, V1_n, V1_o, V1_rest]
    isplitl [Hn Ho]
    · isplitl [Hn]; · iexact Hn
      iexact Ho
    iexact Hrest
  iintro ⟨Hb, Hheld⟩
  rw [wp_pure]; imodintro
  isplitl [Hst]; · iexact Hst
  isplitl [Hheld]; · iexact Hheld
  isplitl [Hb] <;> iassumption

/-- Device `d`'s buffers in the final state. -/
def fq (d : Dev nD) (s' : Phys nD τ sig (Elt F)) : Prop :=
  ∀ b ∈ ucRefs τ sig, s'.mem.mem (d, b) = after ops (V1 m d) b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact h

/-! ## The program's run -/

def QC : PUnit × MemSt nD τ sig (Elt F) → Prop := fun r =>
  (∀ d : Dev nD, ∀ b ∈ ucRefs τ sig, r.2.mem (d, b) = after ops (V1 m d) b) ∧ r.2.sem = fun _ => 0

/-- Every weakly fair execution of the program ends, each buffer at the host operations' results over the call's, the
    semaphores at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.KEnd.lean ====
/-
  What the program leaves in each result, as the operations' terms in the arguments.
-/
module

public import proofs.«01_k».proof.Proof.KRun

@[expose] public section

noncomputable section

namespace Cert.Proof.KernelIdeal

open Cert.KernelIdeal Cert.KernelIdeal.Gen Cert.Proof.Words

open Idealize.ShloMosaic Idealize.ShloMosaic.TcCoe Idealize.SL.Sem
open Idealize.ShloMosaic.StableHlo
open Idealize.ShloMosaic.Pipeline (ucRefs)

variable {F : FTy → Type} [FloatOps F]

variable (m : (ℓ : Loc nD τ sig) → Buf (Elt F) ℓ) (ρ : Dev nD → PrngReg)

/-- Whether the first count is at least minus one, as a bit. -/
def firstOk (n : IVec S4096 32) : IVec S_ 1 :=
  cmpi .sge (shapeCast S_ (extractStridedSlice S1 ![0] n slices_S4096_S1_0) shapeCasts_S1_S_) (constantI S_ 32 4294967295#32)

/-- The factor the host puts on the integers, one or two, and the one it puts on the floats. -/
def factorI (n : IVec S4096 32) : IVec S_ 32 := select (firstOk n) (constantI S_ 32 1#32) (constantI S_ 32 2#32)
def factorF (n : IVec S4096 32) : FVec F S_ .f32 := select (firstOk n) (constant S_ .f32 0x3F800000#32) (constant S_ .f32 0x40000000#32)

/-- The first, second and fourth results. -/
def res1 (z : IVec S383767 32) (n : IVec S4096 32) : IVec S383767 32 := muli z (broadcastInDim S383767 ![] bcast_S_S383767 (factorI n))
def res2 (x : FVec F S383767x3 .f32) (n : IVec S4096 32) : FVec F S383767x3 .f32 := mulf x (broadcastInDim S383767x3 ![] bcast_S_S383767x3 (factorF n))
def res4 (e : FVec F S4096 .f32) (n : IVec S4096 32) : FVec F S4096x1 .f32 :=
  shapeCast S4096x1 (mulf e (broadcastInDim S4096 ![] bcast_S_S4096 (factorF n))) shapeCasts_S4096_S4096x1

omit [FloatOps F] in
theorem mem_uc (b : Ref sig .tc) (h : b.isScoped = false) : Proc.devRef (τ := τ) .tc b ∈ ucRefs τ sig :=
  Finset.mem_filter.mpr ⟨devRef_mem_tcRefs b, by rw [Bool.not_eq_true]; exact h⟩

omit [FloatOps F] in
theorem V1_of (d : Dev nD) (b : Ref sig .tc) (h : b ≠ main_v0) : V1 m d (Proc.devRef .tc b) = m ((d.tc : Thread nD τ).loc b) :=
  Function.update_of_ne (devRef_ne_of_ne h) _ _

set_option maxRecDepth 8192 in
set_option maxHeartbeats 2000000 in
theorem at_v10 (V : Valuation τ sig (Elt F)) :
    after ops V (Proc.devRef .tc main_v10) = res1 (V (Proc.devRef .tc main_arg0)) (V (Proc.devRef .tc main_arg3)) := by
  simp only [ops, TRef.ternary, TRef.toBuf, TRef.ofBuf, cast_eq]; after_results_simp <;> rfl

set_option maxRecDepth 8192 in
set_option maxHeartbeats 2000000 in
theorem at_v12 (V : Valuation τ sig (Elt F)) :
    after ops V (Proc.devRef .tc main_v12) = res2 (V (Proc.devRef .tc main_arg1)) (V (Proc.devRef .tc main_arg3)) := by
  simp only [ops, TRef.ternary, TRef.toBuf, TRef.ofBuf, cast_eq]; after_results_simp <;> rfl

set_option maxRecDepth 8192 in
set_option maxHeartbeats 2000000 in
theorem at_v15 (V : Valuation τ sig (Elt F)) :
    after ops V (Proc.devRef .tc main_v15) = res4 (V (Proc.devRef .tc main_arg2)) (V (Proc.devRef .tc main_arg3)) := by
  simp only [ops, TRef.ternary, TRef.toBuf, TRef.ofBuf, cast_eq]; after_results_simp <;> rfl

set_option maxRecDepth 8192 in
set_option maxHeartbeats 2000000 in
/-- The host's operations write neither the arguments nor the call's result. -/
theorem at_kept (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_v0) = V (Proc.devRef .tc main_v0) := by
  refine ⟨?_, ?_, ?_, ?_, ?_⟩ <;>
    (simp only [ops, TRef.ternary, TRef.toBuf, TRef.ofBuf, cast_eq]; after_results_simp <;> rfl)

/-- Every weakly fair execution of the program ends with its four results at these values, its arguments unchanged and
    the semaphores at zero. -/
theorem run_values [∀ e, Nonempty (Elt F e)] :
    θ_run (Cert.KernelIdeal.defs (F := F)) (Cert.KernelIdeal.threads (F := F)) ⟨m, fun _ => 0, ρ⟩ fun r => (∀ c : Dev nD,
      r.2.mem ((c.tc : Thread nD τ).loc main_v10) = res1 (m ((c.tc : Thread nD τ).loc main_arg0)) (m ((c.tc : Thread nD τ).loc main_arg3))
      ∧ r.2.mem ((c.tc : Thread nD τ).loc main_v12) = res2 (m ((c.tc : Thread nD τ).loc main_arg1)) (m ((c.tc : Thread nD τ).loc main_arg3))
      ∧ r.2.mem ((c.tc : Thread nD τ).loc main_v0) = G m c
      ∧ r.2.mem ((c.tc : Thread nD τ).loc main_v15) = res4 (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run Cert.KernelIdeal.defs _ _).mono (fun _ h => ⟨fun c =>
    have K := at_kept (V1 m c)
    have hn : V1 m c (Proc.devRef .tc main_arg3) = m ((c.tc : Thread nD τ).loc main_arg3) := V1_of m c main_arg3 (by decide)
    ⟨(h.1 c _ (mem_uc main_v10 (by decide))).trans ((at_v10 _).trans (by rw [V1_of m c main_arg0 (by decide), hn])),
      (h.1 c _ (mem_uc main_v12 (by decide))).trans ((at_v12 _).trans (by rw [V1_of m c main_arg1 (by decide), hn])),
      (h.1 c _ (mem_uc main_v0 (by decide))).trans (K.2.2.2.2.trans (V1_o m c)),
      (h.1 c _ (mem_uc main_v15 (by decide))).trans ((at_v15 _).trans (by rw [V1_of m c main_arg2 (by decide), hn])),
      (h.1 c _ (mem_uc main_arg0 (by decide))).trans (K.1.trans (V1_of m c main_arg0 (by decide))),
      (h.1 c _ (mem_uc main_arg1 (by decide))).trans (K.2.1.trans (V1_of m c main_arg1 (by decide))),
      (h.1 c _ (mem_uc main_arg2 (by decide))).trans (K.2.2.1.trans (V1_of m c main_arg2 (by decide))),
      (h.1 c _ (mem_uc main_arg3 (by decide))).trans (K.2.2.2.1.trans hn)⟩, h.2⟩) (run_main m ρ)

end Cert.Proof.KernelIdeal

end
-- ==== Proof.Frames.lean ====
/-
  The frames: each program ends with its arguments unchanged and its semaphores at zero.
-/
module

public import proofs.«01_k».proof.Defs
public import proofs.«01_k».proof.Proof.KEnd
public import proofs.«01_k».proof.Proof.BEnd
public import proofs.«01_k».proof.Proof.Gen.ReferenceIdeal
public import proofs.«01_k».proof.Proof.Gen.ReferenceIdeal.Run

@[expose] public section

noncomputable section

namespace Cert.Proof

open Idealize.ShloMosaic Idealize.SL.Sem

/-- `Kernel` ends with its arguments unchanged and every semaphore at zero. -/
theorem frame_kernel : Cert.quiescent_Kernel := fun m ρ _ =>
  (θ_run Cert.Kernel.defs _ _).mono (fun _ h => ⟨fun c => (h.1 c).2.2.2.2, h.2⟩) (Cert.Proof.Kernel.run_values (F := Bits) m ρ)

/-- `KernelIdeal` ends with its arguments unchanged and every semaphore at zero. -/
theorem frame_ideal : Cert.quiescent_KernelIdeal := fun m ρ _ =>
  (θ_run Cert.KernelIdeal.defs _ _).mono (fun _ h => ⟨fun c => (h.1 c).2.2.2.2, h.2⟩) (Cert.Proof.KernelIdeal.run_values (F := Ideal) m ρ)

/-- `ReferenceIdeal` ends with its arguments unchanged; it has no semaphore. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

end Cert.Proof

end
-- ==== Proof.Count.lean ====
/-
  The count behind the result: with every count between 1 and 185, what the kernel writes at position `p` is the number of
  molecules, the last excluded, that end at or before `p`.
-/
module

public import proofs.«01_k».proof.Proof.Words
public import Idealize.ShloMosaic.Lib.StableHlo.Predicate

@[expose] public section

noncomputable section

namespace Cert.Proof.Words

open Idealize.ShloMosaic

/-- The sum of the first `k` counts, as a natural number. -/
def ends (a : ℕ → ℕ) (k : ℕ) : ℕ := ∑ i ∈ Finset.range k, a i

/-- How many molecules, the last excluded, end at or before `p`. -/
def molecule (a : ℕ → ℕ) (p : ℕ) : ℕ := ∑ k ∈ Finset.range 4095, if ends a (k + 1) ≤ p then 1 else 0

/-- Counts between 1 and 185. -/
structure InRange (a : ℕ → ℕ) : Prop where
  pos : ∀ k < 4096, 1 ≤ a k
  le : ∀ k < 4096, a k ≤ 185

theorem ends_zero (a : ℕ → ℕ) : ends a 0 = 0 := Finset.sum_range_zero _
theorem ends_succ (a : ℕ → ℕ) (k : ℕ) : ends a (k + 1) = ends a k + a k := Finset.sum_range_succ _ _

/-- The word of a sum is the sum of the words. -/
theorem ofNat_sum {ι : Type} (s : Finset ι) (f : ι → ℕ) : BitVec.ofNat 32 (∑ i ∈ s, f i) = ∑ i ∈ s, BitVec.ofNat 32 (f i) := by
  classical
  induction s using Finset.induction_on with
  | empty => rw [Finset.sum_empty, Finset.sum_empty]; rfl
  | insert i s hi ih => rw [Finset.sum_insert hi, Finset.sum_insert hi, BitVec.ofNat_add, ih]

/-- The word of an indicator. -/
theorem ofNat_ind (P : Prop) [Decidable P] : BitVec.ofNat 32 (if P then 1 else 0) = if P then 1#32 else 0#32 := by
  split <;> rfl

/-- A sum of `M` indicators is at most `M`. -/
theorem sum_ind_le (P : ℕ → Prop) [DecidablePred P] : ∀ M : ℕ, (∑ k ∈ Finset.range M, if P k then 1 else 0) ≤ M
  | 0 => by rw [Finset.sum_range_zero]
  | M + 1 => by have := sum_ind_le P M; rw [Finset.sum_range_succ]; split <;> omega

theorem molecule_le (a : ℕ → ℕ) (p : ℕ) : molecule a p ≤ 4095 := sum_ind_le _ 4095

/-- Counting the molecules that begin at or before `p`, the last included, gives one more. -/
theorem begins_eq (a : ℕ → ℕ) (p : ℕ) : (∑ k ∈ Finset.range 4096, if ends a k ≤ p then 1 else 0) = molecule a p + 1 := by
  rw [Finset.sum_range_succ' _ 4095, ends_zero, if_pos (Nat.zero_le p)]
  rfl

section

variable {a : ℕ → ℕ} (ha : InRange a)
include ha

theorem ends_le {k : ℕ} (hk : k ≤ 4096) : ends a k ≤ 185 * k := by
  induction k with
  | zero => rw [ends_zero]
  | succ k ih => have := ih (by omega); have := ha.le k (by omega); rw [ends_succ]; omega

theorem ends_lt {i j : ℕ} (hij : i < j) (hj : j ≤ 4096) : ends a i < ends a j := by
  induction j with
  | zero => omega
  | succ j ih =>
    have := ha.pos j (by omega)
    rw [ends_succ]
    rcases Nat.lt_or_eq_of_le (Nat.le_of_lt_succ hij) with h | h
    · have := ih h (by omega); omega
    · subst h; omega

theorem ends_inj {i j : ℕ} (hi : i ≤ 4096) (hj : j ≤ 4096) (h : ends a i = ends a j) : i = j := by
  rcases Nat.lt_trichotomy i j with h' | h' | h'
  · have := ends_lt ha h' hj; omega
  · exact h'
  · have := ends_lt ha h' hi; omega

variable {N : ℕ → BitVec 32} (hN : ∀ k < 4096, N k = BitVec.ofNat 32 (a k))
include hN

theorem lead_eq {k : ℕ} (hk : k ≤ 4096) : lead N k = BitVec.ofNat 32 (ends a k) := by
  unfold lead ends
  rw [ofNat_sum]
  exact Finset.sum_congr rfl fun i hi => hN i (by have := Finset.mem_range.mp hi; omega)

omit hN ha in
/-- A small natural as a signed word. -/
theorem toInt_small {x : ℕ} (hx : x < 2 ^ 31) : (BitVec.ofNat 32 x).toInt = (x : ℤ) := by
  exact StableHlo.Predicate.toInt_ofNat_small x hx

omit hN ha in
/-- The difference of two small naturals as a signed word. -/
theorem toInt_diff {x y : ℕ} (hx : x < 2 ^ 30) (hy : y < 2 ^ 30) : (BitVec.ofNat 32 x - BitVec.ofNat 32 y).toInt = (x : ℤ) - y := by
  rw [BitVec.toInt_sub, toInt_small (by omega), toInt_small (by omega), Int.bmod_def]; omega

omit hN ha in
/-- The difference of two small naturals, the first at least the second, as a natural. -/
theorem toNat_diff {x y : ℕ} (hx : x < 2 ^ 30) (hxy : y ≤ x) : (BitVec.ofNat 32 x - BitVec.ofNat 32 y).toNat = x - y := by
  rw [BitVec.toNat_sub, BitVec.toNat_ofNat, BitVec.toNat_ofNat]; omega

/-- A molecule ends inside the share that begins at `s`, past its first position. -/
theorem inside_iff {s k : ℕ} (hs : s < 2 ^ 30) (hk : k < 4096) :
    Inside N (BitVec.ofNat 32 s) k ↔ k < 4095 ∧ s < ends a (k + 1) ∧ ends a (k + 1) < s + 12000 := by
  have hb := ends_le ha (k := k + 1) (by omega)
  unfold Inside rel
  rw [lead_eq ha hN (by omega), BitVec.sle_iff_toInt_le, BitVec.slt_iff_toInt_lt, toInt_diff (by omega) hs,
    show (1#32).toInt = 1 from rfl, show (12000#32).toInt = 12000 from rfl]
  omega

/-- A mark stands where a molecule ends, the share's first position excluded. -/
theorem marks_eq {s i : ℕ} (hs : s < 2 ^ 30) (hi : i < 12000) :
    marks N (BitVec.ofNat 32 s) 4096 i = BitVec.ofNat 32 (∑ k ∈ Finset.range 4095, if 1 ≤ i ∧ ends a (k + 1) = s + i then 1 else 0) := by
  have key : ∀ k < 4096, (Inside N (BitVec.ofNat 32 s) k ∧ (rel N (BitVec.ofNat 32 s) k).toNat = i)
      ↔ k < 4095 ∧ 1 ≤ i ∧ ends a (k + 1) = s + i := fun k hk => by
    have hb := ends_le ha (k := k + 1) (by omega)
    rw [inside_iff ha hN hs hk]
    constructor
    · rintro ⟨⟨h1, h2, h3⟩, h4⟩
      unfold rel at h4
      rw [lead_eq ha hN (by omega), toNat_diff (by omega) (by omega)] at h4
      omega
    · rintro ⟨h1, h2, h3⟩
      refine ⟨by omega, ?_⟩
      unfold rel
      rw [lead_eq ha hN (by omega), toNat_diff (by omega) (by omega)]
      omega
  unfold marks
  split
  · next h =>
    obtain ⟨k, hk, h⟩ := h
    obtain ⟨h1, h2, h3⟩ := (key k hk).mp h
    rw [Finset.sum_eq_single_of_mem k (Finset.mem_range.mpr h1) fun j hj hjk => if_neg fun q =>
      hjk (by have := ends_inj ha (i := j + 1) (j := k + 1) (by have := Finset.mem_range.mp hj; omega) (by omega) (q.2.trans h3.symm); omega),
      if_pos ⟨h2, h3⟩]
  · next h =>
    rw [Finset.sum_eq_zero fun k hk => if_neg fun q => h ⟨k, by have := Finset.mem_range.mp hk; omega,
      (key k (by have := Finset.mem_range.mp hk; omega)).mpr ⟨Finset.mem_range.mp hk, q⟩⟩]

omit ha hN in
/-- A sum over sixteen lanes of a sum over groups is the sum over all. -/
theorem sum_lanes (g : ℕ → ℕ) : ∀ T : ℕ, (∑ l ∈ Finset.range 16, ∑ t ∈ Finset.range T, g (16 * t + l)) = ∑ k ∈ Finset.range (16 * T), g k
  | 0 => by simp
  | T + 1 => by
    rw [Nat.mul_add, Nat.mul_one, Finset.sum_range_add _ (16 * T), ← sum_lanes g T, ← Finset.sum_add_distrib]
    exact Finset.sum_congr rfl fun l _ => Finset.sum_range_succ _ _

/-- The molecules, the last excluded, that end at or before `s`. -/
theorem base_eq {s : ℕ} (hs : s < 2 ^ 30) : base N (BitVec.ofNat 32 s) = BitVec.ofNat 32 (molecule a s) := by
  have e : ∀ l ∈ Finset.range 16, below N (BitVec.ofNat 32 s) 256 l
      = BitVec.ofNat 32 (∑ t ∈ Finset.range 256, (fun k => if k < 4095 ∧ ends a (k + 1) ≤ s then 1 else 0) (16 * t + l)) := fun l hl => by
    unfold below
    rw [ofNat_sum]
    refine Finset.sum_congr rfl fun t ht => ?_
    have ht' := Finset.mem_range.mp ht
    have hl' := Finset.mem_range.mp hl
    have hb := ends_le ha (k := 16 * t + l + 1) (by omega)
    rw [ofNat_ind]
    refine if_congr ?_ rfl rfl
    rw [lead_eq ha hN (by omega), BitVec.sle_iff_toInt_le, toInt_small (by omega), toInt_small (by omega)]
    omega
  unfold base molecule
  rw [Finset.sum_congr rfl e, ← ofNat_sum]
  refine congrArg _ ((sum_lanes (fun k => if k < 4095 ∧ ends a (k + 1) ≤ s then 1 else 0) 256).trans ?_)
  rw [show 16 * 256 = 4095 + 1 from rfl, Finset.sum_range_succ, if_neg (by omega), Nat.add_zero]
  refine Finset.sum_congr rfl fun k hk => if_congr ?_ rfl rfl
  have := Finset.mem_range.mp hk
  omega

omit ha hN in
/-- Of `b`, the number of `i ≤ j` past zero with `s + i = b`, beside whether `b ≤ s`: whether `b ≤ s + j`. -/
theorem sum_hits (b s j : ℕ) : (if b ≤ s then 1 else 0) + (∑ i ∈ Finset.range (j + 1), if 1 ≤ i ∧ b = s + i then 1 else 0) = if b ≤ s + j then 1 else 0 := by
  induction j with
  | zero => rw [Finset.sum_range_one, if_neg (show ¬(1 ≤ 0 ∧ b = s + 0) by omega)]; rfl
  | succ j ih =>
    rw [Finset.sum_range_succ, ← Nat.add_assoc, ih]
    split_ifs <;> omega

/-- What the kernel writes at position `p` is the number of molecules, the last excluded, that end at or before `p`. -/
theorem outW_eq {p : ℕ} (hp : p < 383767) : outW N p = BitVec.ofNat 32 (molecule a p) := by
  have hs : 12000 * (p / 12000) < 2 ^ 30 := by omega
  unfold outW run startW
  rw [base_eq ha hN hs, Finset.sum_congr rfl fun i hi => marks_eq ha hN hs (i := i) (by have := Finset.mem_range.mp hi; omega),
    ← ofNat_sum, ← BitVec.ofNat_add]
  refine congrArg _ ?_
  unfold molecule
  rw [Finset.sum_comm, ← Finset.sum_add_distrib]
  refine Finset.sum_congr rfl fun k _ => ?_
  rw [sum_hits, Nat.div_add_mod]

end

end Cert.Proof.Words

end
-- ==== Proof.RefOps.lean ====
/-
  Four of the reference's operations read at an entry: rolling a vector by one, counting into a vector of another length,
  a running sum, and the conjunction of bits that are all set.
-/
module

public import proofs.«01_k».proof.Proof.Count
public import Idealize.ShloMosaic.Lib.Routing.Ops
public import Idealize.ShloMosaic.Lib.Routing.OpsPair

@[expose] public section

noncomputable section

namespace Cert.Proof.Ref

open Idealize.ShloMosaic Idealize.ShloMosaic.Routing Idealize.ShloMosaic.ValueIdx

/-- Past its first entry, a vector of one entry followed by another vector holds the second vector, one place later. -/
theorem after_first {α : Type} {M N : ℕ} (x : (shape1 1).Idx → α) (y : (shape1 M).Idx → α)
    (h : Shape.Concatenates [shape1 1, shape1 M] (shape1 N) 0) (j : Fin N) (i : Fin M) (hij : i.val + 1 = j.val) :
    concatenate (shape1 N) 0 [⟨shape1 1, x⟩, ⟨shape1 M, y⟩] h (ix1 j) = y (ix1 i) :=
  concatenate_pair_apply_right 0 x y h (ix1 j) rfl rfl (ix1 i) (fun b hb => absurd (Fin.ext (by have := b.isLt; change b.val < 1 at this; show b.val = 0; omega)) hb) hij

/-- A list's fold that adds one for each element with a property. -/
theorem fold_count {ι : Type} (P : ι → Prop) [DecidablePred P] (v : ι → BitVec 32) (hv : ∀ i, v i = 1#32) (l : List ι) :
    ∀ z : ℕ, l.foldl (fun a i => if P i then IntOp.addi a (v i) else a) (BitVec.ofNat 32 z)
      = BitVec.ofNat 32 (z + (l.map fun i => if P i then 1 else 0).sum) := by
  induction l with
  | nil => intro z; rfl
  | cons i l ih =>
    intro z
    rw [List.foldl_cons, List.map_cons, List.sum_cons]
    by_cases h : P i
    · rw [if_pos h, if_pos h, hv, show IntOp.addi (BitVec.ofNat 32 z) 1#32 = BitVec.ofNat 32 (z + 1) from (BitVec.ofNat_add z 1).symm, ih, Nat.add_assoc]
    · rw [if_neg h, if_neg h, ih, Nat.zero_add]

/-- Where an update of a scatter of scalars lands, its index a word in a column: at the word, read signed. -/
theorem lands {K N : ℕ} (d : ScatterDims (shape1 N) (shape2 K 1) (shape1 K)) (hins : d.insertedWindowDims = [0])
    (hmap : d.scatterDimsToOperandDims = [0]) (hvec : d.indexVectorDim = 1) (idx : IVec (shape2 K 1) 32) (k : Fin K) (x : Fin N) :
    d.resultIdx? (ix1 k) idx = some (ix1 x) ↔ (idx (ix2 k (0 : Fin 1))).toInt = (x.val : ℤ) := by
  have mem : (0 : Fin 1) ∈ d.scatterDimsToOperandDims := hmap ▸ List.mem_singleton.mpr rfl
  have noWindow : d.window (ix1 k) 0 = 0 := by
    unfold ScatterDims.window
    refine dif_neg fun h => ?_
    have h' := of_decide_eq_true (List.mem_filter.mp h).2
    rw [hins] at h'
    exact h' (List.mem_singleton.mpr rfl)
  have place : d.siIdx (ix1 k) ⟨d.scatterDimsToOperandDims.idxOf 0, List.idxOf_lt_length_iff.mpr mem⟩ = ix2 k (0 : Fin 1) := by
    refine funext fun b => Fin.ext ?_
    unfold ScatterDims.siIdx
    match b with
    | ⟨0, _⟩ =>
      rw [dif_neg (by rw [hvec]; exact Nat.zero_ne_one)]
      unfold ScatterDims.siCoord
      rw [Fin.val_cast]
      exact congrArg (fun X : Fin 1 => (ix1 k X).val) (Subsingleton.elim _ 0)
    | ⟨1, _⟩ =>
      rw [dif_pos hvec.symm]
      show d.scatterDimsToOperandDims.idxOf (0 : Fin 1) = 0
      rw [hmap, List.idxOf_cons_self]
  have begins : d.start (ix1 k) idx 0 = (idx (ix2 k (0 : Fin 1))).toInt := by
    unfold ScatterDims.start
    rw [dif_pos mem, place]
  rw [resultIdx?_ix1, begins, noWindow, Int.natCast_zero, Int.add_zero]

/-- Adding ones into a vector of zeros at the places `g 0, …, g (K - 1)`: entry `x` counts the places that are `x`. -/
theorem scatter_count {K N : ℕ} (d : ScatterDims (shape1 N) (shape2 K 1) (shape1 K)) (hins : d.insertedWindowDims = [0])
    (hmap : d.scatterDimsToOperandDims = [0]) (hvec : d.indexVectorDim = 1) (x0 : IVec (shape1 N) 32) (idx : IVec (shape2 K 1) 32) (upd : IVec (shape1 K) 32)
    (g : ℕ → ℕ) (hidx : ∀ k : Fin K, idx (ix2 k (0 : Fin 1)) = BitVec.ofNat 32 (g k.val)) (hg : ∀ k < K, g k < 2 ^ 31)
    (h0 : ∀ i, x0 i = 0#32) (h1 : ∀ i, upd i = 1#32) (x : Fin N) :
    Host.scatter d IntOp.addi x0 idx upd (ix1 x) = BitVec.ofNat 32 (∑ k ∈ Finset.range K, if g k = x.val then 1 else 0) := by
  rw [scatter_at, h0, show (0#32 : BitVec 32) = BitVec.ofNat 32 0 from rfl,
    fold_count (fun n => d.resultIdx? ((shape1 K).rowMajor.symm n) idx = some (ix1 x)) (fun n => upd ((shape1 K).rowMajor.symm n)) fun n => h1 _]
  refine congrArg _ ?_
  have e : (∑ k ∈ Finset.range K, if g k = x.val then 1 else 0) = ∑ i : Fin (shape1 K).numel, if g i.val = x.val then 1 else 0 := by
    rw [Fin.sum_univ_eq_sum_range (fun k => if g k = x.val then 1 else 0), numel1]
  rw [Nat.zero_add, ← Fin.sum_univ_def, e]
  refine Finset.sum_congr rfl fun n _ => if_congr ?_ rfl rfl
  have hlt : n.val < K := Nat.lt_of_lt_of_eq n.isLt (numel1 K)
  rw [symm1, lands d hins hmap hvec, hidx]
  show (BitVec.ofNat 32 (g n.val)).toInt = (x.val : ℤ) ↔ g n.val = x.val
  rw [StableHlo.Predicate.toInt_ofNat_small _ (hg _ hlt)]
  omega

/-- The running sum of a vector of naturals, as words. -/
theorem running {N M : ℕ} (hN : M + 1 = N) (x : IVec (shape1 N) 32) (f : ℕ → ℕ) (hx : ∀ i : Fin N, x (ix1 i) = BitVec.ofNat 32 (f i.val))
    (init : IVec shape0 32) (hinit : init ix0 = 0#32) (h : (shape1 N).ReduceWindows (![N] : Fin 1 → Nat) ![1] ![M] ![0] (shape1 N)) (hu : 0 < shape0.numel) (j : Fin N) :
    Host.reduceWindow IntOp.addi ![N] ![1] ![M] ![0] x init h hu (ix1 j) = BitVec.ofNat 32 (∑ i ∈ Finset.range (j.val + 1), f i) :=
  cumsum1 hN x f hx init hinit h hu j

/-- The conjunction of bits that are all set is set. -/
theorem all_set {s t u : Shape} {axes : List (Fin s.rank)} (x : IVec s 1) (init : IVec u 1) (h : s.ReducesTo axes t) (hu : 0 < u.numel)
    (hx : ∀ i, x i = 1#1) (hinit : ∀ i, init i = 1#1) (j : t.Idx) : Host.reduce IntOp.andi x init h hu j = 1#1 := by
  unfold Host.reduce
  generalize (List.finRange s.numel).filter (fun n => h.drop (s.rowMajor.symm n) = j) = l
  rw [hinit]
  induction l with
  | nil => rfl
  | cons n l ih => rw [List.foldl_cons, hx]; exact ih

end Cert.Proof.Ref

end
-- ==== Proof.RefValue.lean ====
/-
  What the reference computes: with every count between 1 and 185, entry `p` of the molecule indices is the number of
  molecules, the last excluded, that end at or before `p`.
-/
module

public import proofs.«01_k».proof.Proof.RefOps
public import proofs.«01_k».proof.Proof.Gen.ReferenceIdeal
public import proofs.«01_k».proof.Proof.Gen.ReferenceIdeal.Run
public import Idealize.ShloMosaic.Lib.Routing.OpsOne
public import Idealize.ShloMosaic.Lib.Routing.OpsSet

@[expose] public section

noncomputable section

namespace Cert.Proof.Ref

open Cert.ReferenceIdeal Cert.ReferenceIdeal.Gen Cert.Proof.Words
open Idealize.ShloMosaic Idealize.ShloMosaic.Routing Idealize.ShloMosaic.ValueIdx

variable (n : IVec S4096 32)

/-- The counts one place later, zero first. -/
def shifted : IVec S4096 32 :=
  Host.scatter scatter_S4096_S1_S__n_0_0_0 (fun _ b => b)
    (concatenate S4096 0 [⟨S1, extractStridedSlice S1 ![4095] n slices_S4096_S1_4095⟩, ⟨S4095, extractStridedSlice S4095 ![0] n slices_S4096_S4095_0⟩] concatenates_S1_S4095_S4096_d0)
    (broadcastInDim S1 ![] bcast_S_S1 (constantI S_ 32 0#32)) (constantI S_ 32 0#32)

/-- Where each molecule begins. -/
def begins : IVec S4096 32 :=
  Host.reduceWindow IntOp.addi ![4096] ![1] ![4095] ![0] (shifted n) (broadcastInDim S_ ![] bcast_S_S_ (constantI S_ 32 0#32)) reduceWindows_S4096_S4096_w4096s1p4095_0 h_S_

/-- Where each molecule begins, a negative place read from the end. -/
def places : IVec S4096 32 :=
  select (cmpi .slt (begins n) (broadcastInDim S4096 ![] bcast_S_S4096 (constantI S_ 32 0#32)))
    (addi (begins n) (broadcastInDim S4096 ![] bcast_S_S4096 (constantI S_ 32 383767#32))) (begins n)

/-- How many molecules begin at each position. -/
def hist : IVec S383767 32 :=
  Host.scatter scatter_S383767_S4096x1_S4096_n_0_0_1 IntOp.addi (broadcastInDim S383767 ![] bcast_S_S383767 (constantI S_ 32 0#32))
    (broadcastInDim S4096x1 ![0] bcast_S4096_S4096x1_0 (places n)) (broadcastInDim S4096 ![] bcast_S_S4096 (constantI S_ 32 1#32))

/-- How many molecules begin at or before each position, less one. -/
def owner : IVec S383767 32 :=
  subi (Host.reduceWindow IntOp.addi ![383767] ![1] ![383766] ![0] (hist n) (broadcastInDim S_ ![] bcast_S_S_ (constantI S_ 32 0#32)) reduceWindows_S383767_S383767_w383767s1p383766_0 h_S_)
    (broadcastInDim S383767 ![] bcast_S_S383767 (constantI S_ 32 1#32))

/-- The same, a negative one read from the end, as a column of indices. -/
def column : IVec S383767x1 32 :=
  broadcastInDim S383767x1 ![0] bcast_S383767_S383767x1_0
    (select (cmpi .slt (owner n) (broadcastInDim S383767 ![] bcast_S_S383767 (constantI S_ 32 0#32)))
      (addi (owner n) (broadcastInDim S383767 ![] bcast_S_S383767 (constantI S_ 32 4096#32))) (owner n))

/-- Which indices name a molecule. -/
def inside : IVec S383767x1 1 :=
  andi (cmpi .sge (column n) (broadcastInDim S383767x1 ![] bcast_S_S383767x1 (constantI S_ 32 0#32)))
    (cmpi .sle (column n) (broadcastInDim S383767x1 ![0, 1] bcast_S1x1_S383767x1_0_1 (broadcastInDim S1x1 ![1] bcast_S1_S1x1_1 (constantI S1 32 4095#32))))

/-- The reference's molecule indices. -/
def ids : IVec S383767 32 :=
  select (Host.reduce IntOp.andi (inside n) (constantI S_ 1 1#1) reducesTo_S383767x1_S383767_d1 h_S_)
    (Host.gather gather_S4096_S383767x1_S383767_n_0_n_n_0_1_1 (iotaInDim S4096 32 0) (column n))
    (broadcastInDim S383767 ![] bcast_S_S383767 (constantI S_ 32 2147483648#32))

/-- The reference's run leaves these indices. -/
theorem res_eq {F : FTy → Type} [FloatOps F] (m : (ℓ : Loc nD τ sig) → Buf (Elt F) ℓ) (c : Dev nD) :
    Cert.ReferenceIdeal.Value.res_main_v17 m c = ids (m ((c.tc : Thread nD τ).loc main_arg3)) := rfl

variable {n} {a : ℕ → ℕ} (ha : InRange a) (hn : ∀ k : Fin 4096, n (ix1 k) = BitVec.ofNat 32 (a k.val))
include hn

/-- Entry `k` is the count before, and zero first. -/
theorem shifted_apply (k : Fin 4096) : shifted n (ix1 k) = BitVec.ofNat 32 (if k.val = 0 then 0 else a (k.val - 1)) := by
  unfold shifted
  rw [scatter_one scatter_S4096_S1_S__n_0_0_0 rfl rfl _ _ _ (0 : Fin 4096) (by decide) (bc0 _ _ _)]
  by_cases hk : k = 0
  · subst hk; rw [if_pos rfl]; rfl
  · have hk' : k.val ≠ 0 := fun h => hk (Fin.ext h)
    rw [if_neg hk, if_neg hk', after_first _ _ _ k ⟨k.val - 1, by have := k.isLt; omega⟩ (by show k.val - 1 + 1 = k.val; omega),
      slice1 0 n _ _ (by have := k.isLt; show 0 + (k.val - 1) < 4096; omega), hn]
    exact congrArg (fun x => BitVec.ofNat 32 (a x)) (Nat.zero_add _)

/-- Molecule `k` begins where those before it end. -/
theorem begins_apply (k : Fin 4096) : begins n (ix1 k) = BitVec.ofNat 32 (ends a k.val) := by
  unfold begins
  rw [running rfl (shifted n) (fun k => if k = 0 then 0 else a (k - 1)) (shifted_apply hn) _ (bc0 _ _ _)]
  refine congrArg _ ?_
  rw [Finset.sum_range_succ', if_pos rfl, Nat.add_zero]
  exact Finset.sum_congr rfl fun i _ => (if_neg (Nat.succ_ne_zero i)).trans rfl

include ha

theorem places_apply (k : Fin 4096) : places n (ix1 k) = BitVec.ofNat 32 (ends a k.val) := by
  have hb := ends_le ha (k := k.val) (by have := k.isLt; omega)
  have hk := k.isLt
  unfold places
  rw [WordCmp.select_at, WordCmp.cmpi_at, bc0, begins_apply hn]
  exact wrap_of_lt _ _ (by rw [BitVec.toNat_ofNat]; omega)

theorem hist_apply (x : Fin 383767) : hist n (ix1 x) = BitVec.ofNat 32 (∑ k ∈ Finset.range 4096, if ends a k = x.val then 1 else 0) := by
  unfold hist
  exact scatter_count _ rfl rfl rfl _ _ _ (ends a) (fun k => (bcCol _ _ k).trans (places_apply ha hn k))
    (fun k hk => by have := ends_le ha (k := k) (by omega); omega) (fun i => bc0 _ _ i) (fun i => bc0 _ _ i) x

omit ha hn in
/-- Of `b`, the number of `x ≤ p` that it equals: whether `b ≤ p`. -/
theorem sum_eq_le (b p : ℕ) : (∑ x ∈ Finset.range (p + 1), if b = x then 1 else 0) = if b ≤ p then 1 else 0 := by
  induction p with
  | zero => rw [Finset.sum_range_one]; exact if_congr (by omega) rfl rfl
  | succ p ih => rw [Finset.sum_range_succ, ih]; split_ifs <;> omega

theorem owner_apply (p : Fin 383767) : owner n (ix1 p) = BitVec.ofNat 32 (molecule a p.val) := by
  unfold owner
  show IntOp.subi _ _ = _
  rw [running rfl (hist n) (fun x => ∑ k ∈ Finset.range 4096, if ends a k = x then 1 else 0) (hist_apply ha hn) _ (bc0 _ _ _), bc0,
    Finset.sum_comm, Finset.sum_congr rfl fun k _ => sum_eq_le (ends a k) p.val, begins_eq, BitVec.ofNat_add]
  exact BitVec.add_sub_cancel _ _

theorem column_apply (p : Fin 383767) : column n (ix2 p (0 : Fin 1)) = BitVec.ofNat 32 (molecule a p.val) := by
  have hb := molecule_le a p.val
  unfold column
  rw [bcCol, WordCmp.select_at, WordCmp.cmpi_at, bc0, owner_apply ha hn]
  exact wrap_of_lt _ _ (by rw [BitVec.toNat_ofNat]; omega)

/-- Every index names a molecule. -/
theorem inside_apply (i : S383767x1.Idx) : inside n i = 1#1 := by
  obtain ⟨p, rfl⟩ : ∃ p : Fin 383767, i = ix2 p (0 : Fin 1) := ⟨i 0, funext fun b => by
    match b with
    | ⟨0, _⟩ => rfl
    | ⟨1, h⟩ => exact Fin.ext (by have := (i ⟨1, h⟩).isLt; change (i ⟨1, h⟩).val < 1 at this; show (i ⟨1, h⟩).val = 0; omega)⟩
  have hb := molecule_le a p.val
  show IntOp.andi (IntOp.cmpi .sge (column n _) (broadcastInDim S383767x1 ![] bcast_S_S383767x1 (constantI S_ 32 0#32) _))
    (IntOp.cmpi .sle (column n _) (BitVec.ofNat 32 4095)) = _
  rw [bc0, column_apply ha hn]
  show IntOp.andi (IntOp.cmpi .sge _ (BitVec.ofNat 32 0)) _ = _
  rw [(WordCmp.cmpi_sge_ofNat_eq_one_iff (w := 32) (by omega) (by omega)).mpr (Nat.zero_le _),
    (WordCmp.cmpi_sle_ofNat_eq_one_iff (w := 32) (by omega) (by omega)).mpr hb]
  rfl

/-- Entry `p` of the reference's indices is the number of molecules, the last excluded, that end at or before `p`. -/
theorem ids_apply (p : Fin 383767) : ids n (ix1 p) = BitVec.ofNat 32 (molecule a p.val) := by
  have hb := molecule_le a p.val
  unfold ids
  rw [WordCmp.select_at, all_set (inside n) (constantI S_ 1 1#1) _ _ (inside_apply ha hn) (fun _ => rfl),
    gather_take1 gather_S4096_S383767x1_S383767_n_0_n_n_0_1_1 rfl rfl rfl rfl (iotaInDim S4096 32 0) (column n) p ⟨molecule a p.val, by omega⟩ (column_apply ha hn p) (by decide)]
  rfl

end Cert.Proof.Ref

end
-- ==== Proof.Value.lean ====
/-
  The kernel and the reference end with the same four results, with every count between 1 and 185.
-/
module

public import proofs.«01_k».proof.Proof.KEnd
public import proofs.«01_k».proof.Proof.RefValue
public import proofs.«01_k».proof.Proof.Frames
public import Idealize.ShloMosaic.Lib.IdealHost

@[expose] public section

noncomputable section

namespace Cert.Proof

open Idealize.ShloMosaic Idealize.ShloMosaic.ValueIdx Idealize.SL.Sem
open Cert.Proof.Words Cert.Proof.KernelIdeal

/-- The side condition that the precondition's text states. -/
theorem pre_facts : Cert.Pre_counts_in_range.Facts := ⟨by decide⟩

/-- Two bits whose conjunction is set are set. -/
theorem bits_set {x y : BitVec 1} : IntOp.andi x y = 1#1 → x = 1#1 ∧ y = 1#1 := by
  revert x y; decide

/-- Inside the array a count is the array's entry. -/
theorem word_entry (n : IVec Cert.KernelIdeal.S4096 32) (k : Fin 4096) : word n k.val = n (ix1 k) := by
  unfold word
  rw [dif_pos k.isLt]
  exact congrArg n (funext fun b => by match b with | ⟨0, _⟩ => rfl)

/-- A word between 1 and 185, read signed, is so as a natural. -/
theorem toNat_in_range {x : BitVec 32} (h : IntOp.andi (IntOp.cmpi .sge x 1#32) (IntOp.cmpi .sle x 185#32) = 1#1) : 1 ≤ x.toNat ∧ x.toNat ≤ 185 := by
  obtain ⟨h1, h2⟩ := bits_set h
  rw [WordCmp.cmpi_sge_eq, WordCmp.ofBool_decide_eq_one_iff] at h1
  rw [WordCmp.cmpi_sle_eq, WordCmp.ofBool_decide_eq_one_iff] at h2
  rw [show (1#32).toInt = 1 from rfl] at h1
  rw [show (185#32).toInt = 185 from rfl] at h2
  rw [BitVec.toInt_eq_toNat_cond] at h1 h2
  have := x.isLt
  split at h1 <;> split at h2 <;> omega

section

variable (n : IVec Cert.KernelIdeal.S4096 32) (hpre : ∀ k : Fin 4096, 1 ≤ (n (ix1 k)).toNat ∧ (n (ix1 k)).toNat ≤ 185)
include hpre

/-- The counts as naturals. -/
theorem counts_in : InRange fun k => (word n k).toNat := by
  refine ⟨fun k hk => ?_, fun k hk => ?_⟩ <;>
  · show _ ≤ _
    have e : word n k = n (ix1 ⟨k, hk⟩) := word_entry n ⟨k, hk⟩
    have := hpre ⟨k, hk⟩
    rw [e]
    omega

/-- The first count is at least minus one. -/
theorem firstOk_one : firstOk n = fun _ => 1#1 := by
  have h := hpre (0 : Fin 4096)
  refine funext fun i => ?_
  have e : firstOk n i = IntOp.cmpi .sge (n (ix1 (0 : Fin 4096))) 4294967295#32 := by
    unfold firstOk
    show IntOp.cmpi .sge (shapeCast Cert.KernelIdeal.S_ _ _ i) 4294967295#32 = _
    rw [shapeCast_apply _ _ i (ix1 (0 : Fin 1)) (by rw [eq_ix0 i]; rfl)]
    exact congrArg (fun x => IntOp.cmpi .sge x 4294967295#32) (Routing.slice1 0 n _ (0 : Fin 1) (by decide))
  rw [e, WordCmp.cmpi_sge_eq, WordCmp.ofBool_decide_eq_one_iff, show (4294967295#32).toInt = -1 from rfl, BitVec.toInt_eq_toNat_cond, if_pos (by omega)]
  omega

/-- The integers' factor is one: the first result is the first argument. -/
theorem res1_eq (z : IVec Cert.KernelIdeal.S383767 32) : res1 z n = z := by
  refine funext fun i => ?_
  unfold res1 factorI
  rw [firstOk_one n hpre]
  exact BitVec.mul_one (z i)

/-- The floats' factor is one over the extended reals. -/
theorem factorF_one (j : Cert.KernelIdeal.S_.Idx) : factorF (F := Ideal) n j = (1 : EReal) := by
  unfold factorF
  rw [firstOk_one n hpre]
  show (Ideal.ofBits .f32 0x3F800000#32 : EReal) = 1
  exact Idealize.ShloMosaic.Ideal.ofBits_one_f32

theorem res2_eq (x : FVec Ideal Cert.KernelIdeal.S383767x3 .f32) : res2 x n = x := by
  refine funext fun i => ?_
  unfold res2
  show (x i : EReal) * broadcastInDim _ _ _ (factorF (F := Ideal) n) i = x i
  rw [Routing.bc0, factorF_one n hpre, mul_one]

theorem res4_eq (e : FVec Ideal Cert.KernelIdeal.S4096 .f32) : res4 e n = shapeCast Cert.KernelIdeal.S4096x1 e Cert.KernelIdeal.Facts₀.shapeCasts_S4096_S4096x1 := by
  unfold res4
  refine congrArg (fun y => shapeCast Cert.KernelIdeal.S4096x1 y _) (funext fun i => ?_)
  show (e i : EReal) * broadcastInDim _ _ _ (factorF (F := Ideal) n) i = e i
  rw [Routing.bc0, factorF_one n hpre, mul_one]

/-- Entry `p` of the kernel's molecule indices is the reference's. -/
theorem ids_eq (p : Cert.KernelIdeal.S383767.Idx) : outW (word n) (p 0).val = Cert.Proof.Ref.ids n p := by
  have hp : p = ix1 (p 0) := funext fun b => by match b with | ⟨0, _⟩ => rfl
  have hw : ∀ k : Fin 4096, n (ix1 k) = BitVec.ofNat 32 ((fun k => (word n k).toNat) k.val) := fun k => by
    show _ = BitVec.ofNat 32 (word n k.val).toNat
    rw [word_entry, BitVec.ofNat_toNat, BitVec.setWidth_eq]
  rw [outW_eq (counts_in n hpre) (fun k _ => by rw [BitVec.ofNat_toNat, BitVec.setWidth_eq]) (p 0).isLt, hp]
  exact (Cert.Proof.Ref.ids_apply (counts_in n hpre) hw (p 0)).symm

end

/-- The claim: from the same arguments, with counts between 1 and 185, both programs end with the same four results. -/
theorem same_results [hPre_counts_in_range : Cert.Pre_counts_in_range.Facts] : Cert.algebraic_KernelIdeal_ReferenceIdeal_pre_counts_in_range := by
  intro m g m' g' hpre hargs
  have hn : ∀ (c : Dev Cert.KernelIdeal.nD) (k : Fin 4096),
      1 ≤ ((m ((c.tc : Thread Cert.KernelIdeal.nD Cert.KernelIdeal.τ).loc Cert.KernelIdeal.main_arg3) : IVec Cert.KernelIdeal.S4096 32) (ix1 k)).toNat
      ∧ ((m ((c.tc : Thread Cert.KernelIdeal.nD Cert.KernelIdeal.τ).loc Cert.KernelIdeal.main_arg3) : IVec Cert.KernelIdeal.S4096 32) (ix1 k)).toNat ≤ 185 :=
    fun c k => toNat_in_range (congrFun (hpre c) (ix1 k))
  refine ⟨fun c => m ((c.tc : Thread Cert.KernelIdeal.nD Cert.KernelIdeal.τ).loc Cert.KernelIdeal.main_arg0),
    fun c => m ((c.tc : Thread Cert.KernelIdeal.nD Cert.KernelIdeal.τ).loc Cert.KernelIdeal.main_arg1),
    fun c => G m c,
    fun c => shapeCast Cert.KernelIdeal.S4096x1 (m ((c.tc : Thread Cert.KernelIdeal.nD Cert.KernelIdeal.τ).loc Cert.KernelIdeal.main_arg2)) Cert.KernelIdeal.Facts₀.shapeCasts_S4096_S4096x1,
    ?_, ?_⟩
  · exact (θ_run Cert.KernelIdeal.defs _ _).mono (fun r h c =>
      have H := h.1 c
      ⟨H.1.trans (res1_eq _ (hn c) _), H.2.1.trans (res2_eq _ (hn c) _), H.2.2.1, H.2.2.2.1.trans (res4_eq _ (hn c) _), H.2.2.2.2⟩) (run_values (F := Ideal) m g)
  · exact (θ_run Cert.ReferenceIdeal.defs _ _).mono (fun r h c =>
      have H := h c
      have A := hargs c
      ⟨H.1.trans A.1, H.2.1.trans A.2.1,
        H.2.2.1.trans ((Cert.Proof.Ref.res_eq m' c).trans ((congrArg Cert.Proof.Ref.ids A.2.2.2).trans (funext fun p => (ids_eq _ (hn c) p).symm))),
        H.2.2.2.1.trans (congrArg (fun y => shapeCast Cert.KernelIdeal.S4096x1 y Cert.KernelIdeal.Facts₀.shapeCasts_S4096_S4096x1) A.2.2.1),
        H.2.2.2.2⟩) (Cert.ReferenceIdeal.Value.run (F := Ideal) m' g')

end Cert.Proof

end
-- ==== Proof.lean ====
/-
  The proof of `Cert.Claim`: the three frames (of the ideal programs also under the precondition), that the idealization
  is the kernel's own text, and that kernel and reference end with the same four results. Proof/Frames.lean and
  Proof/Value.lean prove the parts.
-/
module

public import proofs.«01_k».proof.Defs
public import proofs.«01_k».proof.Proof.Frames
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import Idealize.ShloMosaic.Adequacy
public import proofs.«01_k».proof.Proof.Value
public import Idealize.ShloMosaic.Init

@[expose] public section

noncomputable section

namespace Cert.Proof

open Idealize.ShloMosaic Idealize.SL.Sem

/-- All the claims. -/
theorem claim : Cert.Claim :=
  ⟨Cert.Kernel.Gen.facts, Cert.KernelIdeal.Gen.facts, Cert.ReferenceIdeal.Gen.facts, pre_facts,
    frame_kernel, frame_ideal, fun m ρ _ => frame_ideal m ρ trivial, frame_reference, fun m ρ _ => frame_reference m ρ trivial, trivial,
    same_results (hPre_counts_in_range := pre_facts)⟩

end Cert.Proof

end
